-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)) (v3 : (c : Dev Cert.Kernel3Ideal.nD) → Buf (Elt Ideal) ((c.tc : Thread Cert.Kernel3Ideal.nD Cert.Kernel3Ideal.τ).loc Cert.Kernel3Ideal.main_v28_3)) (v4 : (c : Dev Cert.Kernel3Ideal.nD) → Buf (Elt Ideal) ((c.tc : Thread Cert.Kernel3Ideal.nD Cert.Kernel3Ideal.τ).loc Cert.Kernel3Ideal.main_v28_4)) (v5 : (c : Dev Cert.Kernel3Ideal.nD) → Buf (Elt Ideal) ((c.tc : Thread Cert.Kernel3Ideal.nD Cert.Kernel3Ideal.τ).loc Cert.Kernel3Ideal.main_v28_5)) (v6 : (c : Dev Cert.Kernel3Ideal.nD) → Buf (Elt Ideal) ((c.tc : Thread Cert.Kernel3Ideal.nD Cert.Kernel3Ideal.τ).loc Cert.Kernel3Ideal.main_v28_6)) (v7 : (c : Dev Cert.Kernel3Ideal.nD) → Buf (Elt Ideal) ((c.tc : Thread Cert.Kernel3Ideal.nD Cert.Kernel3Ideal.τ).loc Cert.Kernel3Ideal.main_v28_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_v28_2) = v2 c
          ∧ r.2.mem ((c.tc : Thread Cert.Kernel3Ideal.nD Cert.Kernel3Ideal.τ).loc Cert.Kernel3Ideal.main_v28_3) = v3 c
          ∧ r.2.mem ((c.tc : Thread Cert.Kernel3Ideal.nD Cert.Kernel3Ideal.τ).loc Cert.Kernel3Ideal.main_v28_4) = v4 c
          ∧ r.2.mem ((c.tc : Thread Cert.Kernel3Ideal.nD Cert.Kernel3Ideal.τ).loc Cert.Kernel3Ideal.main_v28_5) = v5 c
          ∧ r.2.mem ((c.tc : Thread Cert.Kernel3Ideal.nD Cert.Kernel3Ideal.τ).loc Cert.Kernel3Ideal.main_v28_6) = v6 c
          ∧ r.2.mem ((c.tc : Thread Cert.Kernel3Ideal.nD Cert.Kernel3Ideal.τ).loc Cert.Kernel3Ideal.main_v28_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v32) = v4 c
          ∧ r.2.mem ((c.tc : Thread Cert.Reference3Ideal.nD Cert.Reference3Ideal.τ).loc Cert.Reference3Ideal.main_v33) = v5 c
          ∧ r.2.mem ((c.tc : Thread Cert.Reference3Ideal.nD Cert.Reference3Ideal.τ).loc Cert.Reference3Ideal.main_v34) = v6 c
          ∧ r.2.mem ((c.tc : Thread Cert.Reference3Ideal.nD Cert.Reference3Ideal.τ).loc Cert.Reference3Ideal.main_v35) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "scale" .f32 0x3E38AA3B#32 (((8 * (Real.log 2))⁻¹ : ℝ) : EReal)
  ∧ IdealRules.named_const.Statement Cert.Kernel4Ideal.κ "mask" .f32 0xF149F2CA#32 ⊥

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v19)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x4096x512 : Shape := ⟨3, ![8, 4096, 512]⟩
abbrev S8x2x256x64 : Shape := ⟨4, ![8, 2, 256, 64]⟩
abbrev S8x2x64x256 : Shape := ⟨4, ![8, 2, 64, 256]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bitsLt_bf16_f32 : FTy.bits .bf16 < FTy.bits .f32
  bcast_S_S8x2x256x64 : S_.BroadcastsInDim S8x2x256x64 (![] : Fin 0 → Fin S8x2x256x64.rank)
  reducesTo_S8x2x256x64_S_d0_1_2_3 : S8x2x256x64.ReducesTo [0, 1, 2, 3] S_

variable [Facts]

def fn {F : FTy → Type} [FloatOps F] (main_arg0 : FVec F S8x4096x512 .f32) (main_arg1 : FVec F S8x2x256x64 .bf16) (main_arg2 : FVec F S8x2x64x256 .bf16) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x2x256x64 .f32 := (extf .f32 · bitsLt_bf16_f32) main_arg1
  let main_v5 : FVec F S8x2x256x64 .f32 := Host.absf main_v4
  let main_cst_0 : FVec F S_ .f32 := constant S_ .f32 0x7F800000#32
  let main_v6 : FVec F S8x2x256x64 .f32 := broadcastInDim S8x2x256x64 ![] bcast_S_S8x2x256x64 main_cst_0
  let main_v7 : IVec S8x2x256x64 1 := cmpf .olt main_v5 main_v6
  let main_c_1 : IVec S_ 1 := constantI S_ 1 1#1
  let main_v8 : IVec S_ 1 := (fun x v => Host.reduce IntOp.andi x v reducesTo_S8x2x256x64_S_d0_1_2_3 h_S_) main_v7 main_c_1
  let main_v9 : IVec S_ 1 := andi main_v3 main_v8
  main_v9
-- ==== Kernel.lean ====
abbrev S8x4096x1024 : Shape := ⟨3, ![8, 4096, 1024]⟩
abbrev S8x4096x256 : Shape := ⟨3, ![8, 4096, 256]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S1x5632 : Shape := ⟨2, ![1, 5632]⟩
abbrev S1x512x1024 : Shape := ⟨3, ![1, 512, 1024]⟩
abbrev S1x512x256 : Shape := ⟨3, ![1, 512, 256]⟩
abbrev S11x520x256 : Shape := ⟨3, ![11, 520, 256]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S11x8x256 : Shape := ⟨3, ![11, 8, 256]⟩
abbrev S1024x256 : Shape := ⟨2, ![1024, 256]⟩
abbrev S512x256 : Shape := ⟨2, ![512, 256]⟩
abbrev S3x256 : Shape := ⟨2, ![3, 256]⟩
abbrev S1x256 : Shape := ⟨2, ![1, 256]⟩
abbrev S1x8x256 : Shape := ⟨3, ![1, 8, 256]⟩
abbrev S8x256 : Shape := ⟨2, ![8, 256]⟩
abbrev S512x768 : Shape := ⟨2, ![512, 768]⟩
abbrev S768x1024 : Shape := ⟨2, ![768, 1024]⟩

abbrev nBuf : Space → Nat
  | .hbm => 20
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S256x1024, .bf16⟩
  | .hbm, ⟨15, _⟩ => ⟨S1x1024, .f32⟩
  | .hbm, ⟨16, _⟩ => ⟨S1024x5632, .bf16⟩
  | .hbm, ⟨17, _⟩ => ⟨S1x5632, .f32⟩
  | .hbm, ⟨18, _⟩ => ⟨S2816x1024, .bf16⟩
  | .hbm, ⟨19, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S11x520x256, .f32⟩
  | .local _ .vmem, ⟨16, _⟩ => ⟨S11x520x256, .f32⟩
  | .local _ .vmem, ⟨17, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x4096x1024 : Shape := ⟨3, ![8, 4096, 1024]⟩
abbrev S8x4096x256 : Shape := ⟨3, ![8, 4096, 256]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 120
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x5632, .f32⟩
  | .hbm, ⟨28, _⟩ => ⟨S_, .i32⟩
  | .hbm, ⟨29, _⟩ => ⟨S_, .f32⟩
  | .hbm, ⟨30, _⟩ => ⟨S8x4098x5632, .f32⟩
  | .hbm, ⟨31, _⟩ => ⟨S1x5632, .f32⟩
  | .hbm, ⟨32, _⟩ => ⟨S5632, .f32⟩
  | .hbm, ⟨33, _⟩ => ⟨S8x4096x5632, .f32⟩
  | .hbm, ⟨34, _⟩ => ⟨S1x1x5632, .f32⟩
  | .hbm, ⟨35, _⟩ => ⟨S8x4096x5632, .f32⟩
  | .hbm, ⟨36, _⟩ => ⟨S8x4096x5632, .f32⟩
  | .hbm, ⟨37, _⟩ => ⟨S1x5632, .f32⟩
  | .hbm, ⟨38, _⟩ => ⟨S5632, .f32⟩
  | .hbm, ⟨39, _⟩ => ⟨S8x4096x5632, .f32⟩
  | .hbm, ⟨40, _⟩ => ⟨S1x1x5632, .f32⟩
  | .hbm, ⟨41, _⟩ => ⟨S8x4096x5632, .f32⟩
  | .hbm, ⟨42, _⟩ => ⟨S8x4096x5632, .f32⟩
  | .hbm, ⟨43, _⟩ => ⟨S8x4096x5632, .f32⟩
  | .hbm, ⟨44, _⟩ => ⟨S1x5632, .f32⟩
  | .hbm, ⟨45, _⟩ => ⟨S5632, .f32⟩
  | .hbm, ⟨46, _⟩ => ⟨S8x4096x5632, .f32⟩
  | .hbm, ⟨47, _⟩ => ⟨S1x1x5632, .f32⟩
  | .hbm, ⟨48, _⟩ => ⟨S8x4096x5632, .f32⟩
  | .hbm, ⟨49, _⟩ => ⟨S8x4096x5632, .f32⟩
  | .hbm, ⟨50, _⟩ => ⟨S8x4096x5632, .f32⟩
  | .hbm, ⟨51, _⟩ => ⟨S1x1x5632, .f32⟩
  | .hbm, ⟨52, _⟩ => ⟨S8x4096x5632, .f32⟩
  | .hbm, ⟨53, _⟩ => ⟨S8x4096x5632, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S_, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S_, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S_, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S_, .f32⟩
  | .hbm, ⟨81, _⟩ => ⟨S8x4096x1, .f32⟩
  | .hbm, ⟨82, _⟩ => ⟨S8x4096x1, .f32⟩
  | .hbm, ⟨83, _⟩ => ⟨S_, .f32⟩
  | .hbm, ⟨84, _⟩ => ⟨S8x4096x1, .f32⟩
  | .hbm, ⟨85, _⟩ => ⟨S8x4096x1, .f32⟩
  | .hbm, ⟨86, _⟩ => ⟨S8x4096x1, .f32⟩
  | .hbm, ⟨87, _⟩ => ⟨S8x4096x1024, .f32⟩
  | .hbm, ⟨88, _⟩ => ⟨S8x4096x1024, .f32⟩
  | .hbm, ⟨89, _⟩ => ⟨S1x1x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S_, .f32⟩
  | .hbm, ⟨96, _⟩ => ⟨S8x4096x1024, .f32⟩
  | .hbm, ⟨97, _⟩ => ⟨S8x4096x1024, .f32⟩
  | .hbm, ⟨98, _⟩ => ⟨S_, .f32⟩
  | .hbm, ⟨99, _⟩ => ⟨S8x4096x1024, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | .hbm, ⟨105, _⟩ => ⟨S_, .f32⟩
  | .hbm, ⟨106, _⟩ => ⟨S8x4096, .f32⟩
  | .hbm, ⟨107, _⟩ => ⟨S8x4096x1, .f32⟩
  | .hbm, ⟨108, _⟩ => ⟨S_, .f32⟩
  | .hbm, ⟨109, _⟩ => ⟨S8x4096x1, .f32⟩
  | .hbm, ⟨110, _⟩ => ⟨S8x4096x1, .f32⟩
  | .hbm, ⟨111, _⟩ => ⟨S_, .f32⟩
  | .hbm, ⟨112, _⟩ => ⟨S8x4096x1, .f32⟩
  | .hbm, ⟨113, _⟩ => ⟨S8x4096x1, .f32⟩
  | .hbm, ⟨114, _⟩ => ⟨S8x4096x1, .f32⟩
  | .hbm, ⟨115, _⟩ => ⟨S8x4096x1024, .f32⟩
  | .hbm, ⟨116, _⟩ => ⟨S8x4096x1024, .f32⟩
  | .hbm, ⟨117, _⟩ => ⟨S1x1x1024, .f32⟩
  | .hbm, ⟨118, _⟩ => ⟨S8x4096x1024, .f32⟩
  | .hbm, ⟨119, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_11 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_cst_13 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S1024 : Shape := ⟨1, ![1024]⟩
abbrev S1024x3864 : Shape := ⟨2, ![1024, 3864]⟩
abbrev S512x1024 : Shape := ⟨2, ![512, 1024]⟩
abbrev S1024x1024 : Shape := ⟨2, ![1024, 1024]⟩
abbrev S1x1024 : Shape := ⟨2, ![1, 1024]⟩
abbrev S1024x2048 : Shape := ⟨2, ![1024, 2048]⟩
abbrev S1x1024x1024 : Shape := ⟨3, ![1, 1024, 1024]⟩
abbrev S1x1024x512 : Shape := ⟨3, ![1, 1024, 512]⟩
abbrev S1024x1 : Shape := ⟨2, ![1024, 1]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024, .f32⟩
  | .hbm, ⟨4, _⟩ => ⟨S1024x3864, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1024x2048, .f32⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024x1024, .f32⟩
  | .local _ .vmem, ⟨12, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S1024 : Shape := ⟨1, ![1024]⟩
abbrev S1024x3864 : Shape := ⟨2, ![1024, 3864]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3864 : Shape := ⟨3, ![8, 4096, 3864]⟩
abbrev S8x4096x2048 : Shape := ⟨3, ![8, 4096, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024, .f32⟩
  | .hbm, ⟨4, _⟩ => ⟨S1024x3864, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x3864, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S_, .f32⟩
  | .hbm, ⟨29, _⟩ => ⟨S8x4096x2048, .f32⟩
  | .hbm, ⟨30, _⟩ => ⟨S8x4096x2048, .f32⟩
  | .hbm, ⟨31, _⟩ => ⟨S_, .f32⟩
  | .hbm, ⟨32, _⟩ => ⟨S8x4096x2048, .f32⟩
  | .hbm, ⟨33, _⟩ => ⟨S8x4096x2048, .f32⟩
  | .hbm, ⟨34, _⟩ => ⟨S8x4096x1024, .f32⟩
  | .hbm, ⟨35, _⟩ => ⟨S8x4096x512, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x512, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x3864 : Shape := ⟨2, ![1024, 3864]⟩
abbrev S1x1024 : Shape := ⟨2, ![1, 1024]⟩
abbrev S1024x768 : Shape := ⟨2, ![1024, 768]⟩
abbrev S1024x6x2x64 : Shape := ⟨4, ![1024, 6, 2, 64]⟩
abbrev S1024x24 : Shape := ⟨2, ![1024, 24]⟩
abbrev S_ : Shape := ⟨0, ![]⟩
abbrev S1024x128 : Shape := ⟨2, ![1024, 128]⟩
abbrev S1024x1024 : Shape := ⟨2, ![1024, 1024]⟩
abbrev S1024x1x2x64 : Shape := ⟨4, ![1024, 1, 2, 64]⟩
abbrev S1024x2x64 : Shape := ⟨3, ![1024, 2, 64]⟩
abbrev S1024x2x128 : Shape := ⟨3, ![1024, 2, 128]⟩
abbrev S1024x256 : Shape := ⟨2, ![1024, 256]⟩
abbrev S1024x2176 : Shape := ⟨2, ![1024, 2176]⟩
abbrev S8x4096x512 : Shape := ⟨3, ![8, 4096, 512]⟩
abbrev S8x4096x256 : Shape := ⟨3, ![8, 4096, 256]⟩
abbrev S8x4096x128 : Shape := ⟨3, ![8, 4096, 128]⟩
abbrev S1x512x1024 : Shape := ⟨3, ![1, 512, 1024]⟩
abbrev S1x512x512 : Shape := ⟨3, ![1, 512, 512]⟩
abbrev S1x512x256 : Shape := ⟨3, ![1, 512, 256]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x2176 : Shape := ⟨2, ![512, 2176]⟩
abbrev S512x512 : Shape := ⟨2, ![512, 512]⟩
abbrev S512x256 : Shape := ⟨2, ![512, 256]⟩
abbrev S512x128 : Shape := ⟨2, ![512, 128]⟩

abbrev nBuf : Space → Nat
  | .hbm => 45
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3864, .f32⟩
  | .hbm, ⟨3, _⟩ => ⟨S1x1024, .f32⟩
  | .hbm, ⟨4, _⟩ => ⟨S1024x768, .f32⟩
  | .hbm, ⟨5, _⟩ => ⟨S1024x6x2x64, .f32⟩
  | .hbm, ⟨6, _⟩ => ⟨S1024x24, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1024, .f32⟩
  | .hbm, ⟨11, _⟩ => ⟨S1024x1x2x64, .f32⟩
  | .hbm, ⟨12, _⟩ => ⟨S1024x2x64, .f32⟩
  | .hbm, ⟨13, _⟩ => ⟨S1024x128, .f32⟩
  | .hbm, ⟨14, _⟩ => ⟨S1024x1x2x64, .f32⟩
  | .hbm, ⟨15, _⟩ => ⟨S1024x2x64, .f32⟩
  | .hbm, ⟨16, _⟩ => ⟨S1024x128, .f32⟩
  | .hbm, ⟨17, _⟩ => ⟨S1024x1x2x64, .f32⟩
  | .hbm, ⟨18, _⟩ => ⟨S1024x2x64, .f32⟩
  | .hbm, ⟨19, _⟩ => ⟨S_, .i32⟩
  | .hbm, ⟨20, _⟩ => ⟨S_, .f32⟩
  | .hbm, ⟨21, _⟩ => ⟨S1024x2x128, .f32⟩
  | .hbm, ⟨22, _⟩ => ⟨S1024x256, .f32⟩
  | .hbm, ⟨23, _⟩ => ⟨S1024x1x2x64, .f32⟩
  | .hbm, ⟨24, _⟩ => ⟨S1024x2x64, .f32⟩
  | .hbm, ⟨25, _⟩ => ⟨S_, .i32⟩
  | .hbm, ⟨26, _⟩ => ⟨S_, .f32⟩
  | .hbm, ⟨27, _⟩ => ⟨S1024x2x128, .f32⟩
  | .hbm, ⟨28, _⟩ => ⟨S1024x256, .f32⟩
  | .hbm, ⟨29, _⟩ => ⟨S1024x1x2x64, .f32⟩
  | .hbm, ⟨30, _⟩ => ⟨S1024x2x64, .f32⟩
  | .hbm, ⟨31, _⟩ => ⟨S1024x128, .f32⟩
  | .hbm, ⟨32, _⟩ => ⟨S1024x1x2x64, .f32⟩
  | .hbm, ⟨33, _⟩ => ⟨S1024x2x64, .f32⟩
  | .hbm, ⟨34, _⟩ => ⟨S1024x128, .f32⟩
  | .hbm, ⟨35, _⟩ => ⟨S1024x2176, .f32⟩
  | .hbm, ⟨36, _⟩ => ⟨S1024x2176, .bf16⟩
  | .hbm, ⟨37, _⟩ => ⟨S8x4096x512, .f32⟩
  | .hbm, ⟨38, _⟩ => ⟨S8x4096x512, .f32⟩
  | .hbm, ⟨39, _⟩ => ⟨S8x4096x256, .f32⟩
  | .hbm, ⟨40, _⟩ => ⟨S8x4096x256, .bf16⟩
  | .hbm, ⟨41, _⟩ => ⟨S8x4096x256, .bf16⟩
  | .hbm, ⟨42, _⟩ => ⟨S8x4096x128, .bf16⟩
  | .hbm, ⟨43, _⟩ => ⟨S8x4096x128, .bf16⟩
  | .hbm, ⟨44, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2176, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .f32⟩
  | .local _ .vmem, ⟨19, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_call2_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev main_v28_4 : Ref sig .tc := ⟨.hbm, 41, rfl⟩
abbrev main_v28_5 : Ref sig .tc := ⟨.hbm, 42, rfl⟩
abbrev main_v28_6 : Ref sig .tc := ⟨.hbm, 43, rfl⟩
abbrev main_v28_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x4096x1024 : Shape := ⟨3, ![8, 4096, 1024]⟩
abbrev S1024 : Shape := ⟨1, ![1024]⟩
abbrev S1024x3864 : Shape := ⟨2, ![1024, 3864]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3864 : Shape := ⟨3, ![8, 4096, 3864]⟩
abbrev S8x4096x512 : Shape := ⟨3, ![8, 4096, 512]⟩
abbrev S8x4096x768 : Shape := ⟨3, ![8, 4096, 768]⟩
abbrev S8x4096x24 : Shape := ⟨3, ![8, 4096, 24]⟩
abbrev S8x4096x128 : Shape := ⟨3, ![8, 4096, 128]⟩
abbrev S8x4096x256 : Shape := ⟨3, ![8, 4096, 256]⟩
abbrev S8x4096x2x64 : Shape := ⟨4, ![8, 4096, 2, 64]⟩
abbrev S8x4096x2x128 : Shape := ⟨4, ![8, 4096, 2, 128]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3864, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3864, .f32⟩
  | .hbm, ⟨20, _⟩ => ⟨S8x4096x512, .f32⟩
  | .hbm, ⟨21, _⟩ => ⟨S8x4096x512, .f32⟩
  | .hbm, ⟨22, _⟩ => ⟨S8x4096x768, .f32⟩
  | .hbm, ⟨23, _⟩ => ⟨S8x4096x24, .f32⟩
  | .hbm, ⟨24, _⟩ => ⟨S8x4096x128, .f32⟩
  | .hbm, ⟨25, _⟩ => ⟨S8x4096x128, .f32⟩
  | .hbm, ⟨26, _⟩ => ⟨S8x4096x128, .f32⟩
  | .hbm, ⟨27, _⟩ => ⟨S8x4096x128, .f32⟩
  | .hbm, ⟨28, _⟩ => ⟨S8x4096x128, .f32⟩
  | .hbm, ⟨29, _⟩ => ⟨S8x4096x128, .f32⟩
  | .hbm, ⟨30, _⟩ => ⟨S8x4096x256, .f32⟩
  | .hbm, ⟨31, _⟩ => ⟨S8x4096x2x64, .f32⟩
  | .hbm, ⟨32, _⟩ => ⟨S_, .i32⟩
  | .hbm, ⟨33, _⟩ => ⟨S_, .f32⟩
  | .hbm, ⟨34, _⟩ => ⟨S8x4096x2x128, .f32⟩
  | .hbm, ⟨35, _⟩ => ⟨S8x4096x256, .f32⟩
  | .hbm, ⟨36, _⟩ => ⟨S8x4096x256, .bf16⟩
  | .hbm, ⟨37, _⟩ => ⟨S8x4096x2x64, .f32⟩
  | .hbm, ⟨38, _⟩ => ⟨S_, .i32⟩
  | .hbm, ⟨39, _⟩ => ⟨S_, .f32⟩
  | .hbm, ⟨40, _⟩ => ⟨S8x4096x2x128, .f32⟩
  | .hbm, ⟨41, _⟩ => ⟨S8x4096x256, .f32⟩
  | .hbm, ⟨42, _⟩ => ⟨S8x4096x256, .bf16⟩
  | .hbm, ⟨43, _⟩ => ⟨S8x4096x128, .bf16⟩
  | .hbm, ⟨44, _⟩ => ⟨S8x4096x128, .bf16⟩
  | .hbm, ⟨45, _⟩ => ⟨S_, .i32⟩
  | .hbm, ⟨46, _⟩ => ⟨S_, .f32⟩
  | .hbm, ⟨47, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_call1_v0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_call2_v0 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel4.lean ====
abbrev S8x4096x512 : Shape := ⟨3, ![8, 4096, 512]⟩
abbrev S8x2x256x64 : Shape := ⟨4, ![8, 2, 256, 64]⟩
abbrev S8x2x64x256 : Shape := ⟨4, ![8, 2, 64, 256]⟩
abbrev S64x256 : Shape := ⟨2, ![64, 256]⟩
abbrev S8x2x128x256 : Shape := ⟨4, ![8, 2, 128, 256]⟩
abbrev S8x2x128x16384 : Shape := ⟨4, ![8, 2, 128, 16384]⟩
abbrev S8x2x64x16384 : Shape := ⟨4, ![8, 2, 64, 16384]⟩
abbrev S1x1024x256 : Shape := ⟨3, ![1, 1024, 256]⟩
abbrev S1x1x256x64 : Shape := ⟨4, ![1, 1, 256, 64]⟩
abbrev S1x1x128x256 : Shape := ⟨4, ![1, 1, 128, 256]⟩
abbrev S1x1x128x4096 : Shape := ⟨4, ![1, 1, 128, 4096]⟩
abbrev S1x1x64x4096 : Shape := ⟨4, ![1, 1, 64, 4096]⟩
abbrev S256x64 : Shape := ⟨2, ![256, 64]⟩
abbrev S8x256 : Shape := ⟨2, ![8, 256]⟩
abbrev S1x256x256 : Shape := ⟨3, ![1, 256, 256]⟩
abbrev S256x256 : Shape := ⟨2, ![256, 256]⟩
abbrev S64x1024 : Shape := ⟨2, ![64, 1024]⟩
abbrev S1x1x64x1024 : Shape := ⟨4, ![1, 1, 64, 1024]⟩
abbrev S1x1024 : Shape := ⟨2, ![1, 1024]⟩
abbrev S256x1024 : Shape := ⟨2, ![256, 1024]⟩
abbrev S1024 : Shape := ⟨1, ![1024]⟩
abbrev S128x256 : Shape := ⟨2, ![128, 256]⟩
abbrev S128x1024 : Shape := ⟨2, ![128, 1024]⟩
abbrev S1x256 : Shape := ⟨2, ![1, 256]⟩
abbrev S1x1x64x256 : Shape := ⟨4, ![1, 1, 64, 256]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x2x256x64, .bf16⟩
  | .hbm, ⟨2, _⟩ => ⟨S8x2x64x256, .bf16⟩
  | .hbm, ⟨3, _⟩ => ⟨S64x256, .bf16⟩
  | .hbm, ⟨4, _⟩ => ⟨S8x2x64x256, .bf16⟩
  | .hbm, ⟨5, _⟩ => ⟨S8x2x128x256, .bf16⟩
  | .hbm, ⟨6, _⟩ => ⟨S8x2x128x16384, .bf16⟩
  | .hbm, ⟨7, _⟩ => ⟨S8x2x64x16384, .f32⟩
  | .local _ .vmem, ⟨0, _⟩ => ⟨S1x1024x256, .f32⟩
  | .local _ .vmem, ⟨1, _⟩ => ⟨S1x1024x256, .f32⟩
  | .local _ .vmem, ⟨2, _⟩ => ⟨S1x1x256x64, .bf16⟩
  | .local _ .vmem, ⟨3, _⟩ => ⟨S1x1x256x64, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x1x128x4096, .bf16⟩
  | .local _ .vmem, ⟨7, _⟩ => ⟨S1x1x128x4096, .bf16⟩
  | .local _ .vmem, ⟨8, _⟩ => ⟨S1x1x64x4096, .f32⟩
  | .local _ .vmem, ⟨9, _⟩ => ⟨S1x1x64x4096, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel4Ideal.lean ====
variable {F : FTy → Type} [FloatOps F] [Named F]
def κ : String → Option EReal := fun
  | "mask" => some ⊥
  | "scale" => some (((8 * (Real.log 2))⁻¹ : ℝ) : EReal)
  | _ => none
-- ==== Reference4Ideal.lean ====
abbrev S8x4096x512 : Shape := ⟨3, ![8, 4096, 512]⟩
abbrev S8x2x256x64 : Shape := ⟨4, ![8, 2, 256, 64]⟩
abbrev S8x2x64x256 : Shape := ⟨4, ![8, 2, 64, 256]⟩
abbrev S_ : Shape := ⟨0, ![]⟩
abbrev S8x4096x2x4x64 : Shape := ⟨5, ![8, 4096, 2, 4, 64]⟩
abbrev S8x2x4x4096x64 : Shape := ⟨5, ![8, 2, 4, 4096, 64]⟩
abbrev S4096 : Shape := ⟨1, ![4096]⟩
abbrev S256 : Shape := ⟨1, ![256]⟩
abbrev S1x256 : Shape := ⟨2, ![1, 256]⟩
abbrev S4096x1 : Shape := ⟨2, ![4096, 1]⟩
abbrev S4096x256 : Shape := ⟨2, ![4096, 256]⟩
abbrev S8x2x4x4096x256 : Shape := ⟨5, ![8, 2, 4, 4096, 256]⟩
abbrev S8x2x4x4096 : Shape := ⟨4, ![8, 2, 4, 4096]⟩
abbrev S8x2x4x4096x1 : Shape := ⟨5, ![8, 2, 4, 4096, 1]⟩
abbrev S8x2x4x16x256x64 : Shape := ⟨6, ![8, 2, 4, 16, 256, 64]⟩
abbrev S8x2x64x16x4x256 : Shape := ⟨6, ![8, 2, 64, 16, 4, 256]⟩
abbrev S8x2x64x16384 : Shape := ⟨4, ![8, 2, 64, 16384]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x2x256x64, .bf16⟩
  | .hbm, ⟨2, _⟩ => ⟨S8x2x64x256, .bf16⟩
  | .hbm, ⟨3, _⟩ => ⟨S_, .f32⟩
  | .hbm, ⟨4, _⟩ => ⟨S8x4096x512, .f32⟩
  | .hbm, ⟨5, _⟩ => ⟨S8x4096x512, .f32⟩
  | .hbm, ⟨6, _⟩ => ⟨S8x4096x2x4x64, .f32⟩
  | .hbm, ⟨7, _⟩ => ⟨S8x2x4x4096x64, .f32⟩
  | .hbm, ⟨8, _⟩ => ⟨S4096, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S1x256, .i32⟩
  | .hbm, ⟨17, _⟩ => ⟨S4096x1, .i32⟩
  | .hbm, ⟨18, _⟩ => ⟨S4096x256, .i32⟩
  | .hbm, ⟨19, _⟩ => ⟨S4096x256, .i32⟩
  | .hbm, ⟨20, _⟩ => ⟨S4096x256, .i1⟩
  | .hbm, ⟨21, _⟩ => ⟨S8x2x256x64, .f32⟩
  | .hbm, ⟨22, _⟩ => ⟨S8x2x4x4096x256, .f32⟩
  | .hbm, ⟨23, _⟩ => ⟨S_, .f32⟩
  | .hbm, ⟨24, _⟩ => ⟨S_, .f32⟩
  | .hbm, ⟨25, _⟩ => ⟨S8x2x4x4096x256, .i1⟩
  | .hbm, ⟨26, _⟩ => ⟨S8x2x4x4096x256, .f32⟩
  | .hbm, ⟨27, _⟩ => ⟨S8x2x4x4096x256, .f32⟩
  | .hbm, ⟨28, _⟩ => ⟨S_, .f32⟩
  | .hbm, ⟨29, _⟩ => ⟨S8x2x4x4096, .f32⟩
  | .hbm, ⟨30, _⟩ => ⟨S_, .f32⟩
  | .hbm, ⟨31, _⟩ => ⟨S8x2x4x4096, .f32⟩
  | .hbm, ⟨32, _⟩ => ⟨S8x2x4x4096, .f32⟩
  | .hbm, ⟨33, _⟩ => ⟨S8x2x4x4096x1, .f32⟩
  | .hbm, ⟨34, _⟩ => ⟨S8x2x4x4096x256, .f32⟩
  | .hbm, ⟨35, _⟩ => ⟨S8x2x4x4096x256, .f32⟩
  | .hbm, ⟨36, _⟩ => ⟨S8x2x4x4096x256, .f32⟩
  | .hbm, ⟨37, _⟩ => ⟨S_, .f32⟩
  | .hbm, ⟨38, _⟩ => ⟨S8x2x4x4096, .f32⟩
  | .hbm, ⟨39, _⟩ => ⟨S8x2x4x4096x1, .f32⟩
  | .hbm, ⟨40, _⟩ => ⟨S8x2x4x4096x256, .f32⟩
  | .hbm, ⟨41, _⟩ => ⟨S8x2x4x4096x256, .f32⟩
  | .hbm, ⟨42, _⟩ => ⟨S_, .f32⟩
  | .hbm, ⟨43, _⟩ => ⟨S_, .f32⟩
  | .hbm, ⟨44, _⟩ => ⟨S8x2x4x4096x256, .i1⟩
  | .hbm, ⟨45, _⟩ => ⟨S8x2x4x4096x256, .f32⟩
  | .hbm, ⟨46, _⟩ => ⟨S8x2x4x4096x256, .f32⟩
  | .hbm, ⟨47, _⟩ => ⟨S8x2x64x256, .f32⟩
  | .hbm, ⟨48, _⟩ => ⟨S8x2x4x4096x64, .f32⟩
  | .hbm, ⟨49, _⟩ => ⟨S8x2x4x16x256x64, .f32⟩
  | .hbm, ⟨50, _⟩ => ⟨S8x2x64x16x4x256, .f32⟩
  | .hbm, ⟨51, _⟩ => ⟨S8x2x64x16384, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel5.lean ====
abbrev S8x4096x256 : Shape := ⟨3, ![8, 4096, 256]⟩
abbrev S32x64 : Shape := ⟨2, ![32, 64]⟩
abbrev S2048x128 : Shape := ⟨2, ![2048, 128]⟩
abbrev S128x64 : Shape := ⟨2, ![128, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S2x16x64x128 : Shape := ⟨4, ![2, 16, 64, 128]⟩
abbrev S2x16x1x64x1x128 : Shape := ⟨6, ![2, 16, 1, 64, 1, 128]⟩
abbrev S2x2 : Shape := ⟨2, ![2, 2]⟩
abbrev S_ : Shape := ⟨0, ![]⟩
abbrev S1x1x2x1x2x1 : Shape := ⟨6, ![1, 1, 2, 1, 2, 1]⟩
abbrev S2x16x2x64x2x128 : Shape := ⟨6, ![2, 16, 2, 64, 2, 128]⟩
abbrev S2x16x128x256 : Shape := ⟨4, ![2, 16, 128, 256]⟩
abbrev S8x2x256x64 : Shape := ⟨4, ![8, 2, 256, 64]⟩
abbrev S1x4096x128 : Shape := ⟨3, ![1, 4096, 128]⟩
abbrev S1x2x256x64 : Shape := ⟨4, ![1, 2, 256, 64]⟩
abbrev S1x256x128 : Shape := ⟨3, ![1, 256, 128]⟩
abbrev S256x128 : Shape := ⟨2, ![256, 128]⟩
abbrev S1x128 : Shape := ⟨2, ![1, 128]⟩
abbrev S1x1x128x256 : Shape := ⟨4, ![1, 1, 128, 256]⟩
abbrev S128x256 : Shape := ⟨2, ![128, 256]⟩
abbrev S256x256 : Shape := ⟨2, ![256, 256]⟩
abbrev S256x64 : Shape := ⟨2, ![256, 64]⟩
abbrev S1x1x256x64 : Shape := ⟨4, ![1, 1, 256, 64]⟩

abbrev nBuf : Space → Nat
  | .hbm => 24
  | .vmem => 7
  | .smem => 0
  | _ => 0

abbrev bufTy : (tb : Table) → Fin (tcTables nBuf tb) → BufTy
  | .hbm, ⟨0, _⟩ => ⟨S8x4096x256, .f32⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S1x32x1x64, .f32⟩
  | .hbm, ⟨5, _⟩ => ⟨S1x32x2x64, .f32⟩
  | .hbm, ⟨6, _⟩ => ⟨S32x128, .f32⟩
  | .hbm, ⟨7, _⟩ => ⟨S2x16x64x128, .f32⟩
  | .hbm, ⟨8, _⟩ => ⟨S2x16x1x64x1x128, .f32⟩
  | .hbm, ⟨9, _⟩ => ⟨S2x2, .i32⟩
  | .hbm, ⟨10, _⟩ => ⟨S2x2, .i32⟩
  | .hbm, ⟨11, _⟩ => ⟨S_, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S2x2, .f32⟩
  | .hbm, ⟨16, _⟩ => ⟨S1x1x2x1x2x1, .f32⟩
  | .hbm, ⟨17, _⟩ => ⟨S2x16x2x64x2x128, .f32⟩
  | .hbm, ⟨18, _⟩ => ⟨S2x16x2x64x2x128, .f32⟩
  | .hbm, ⟨19, _⟩ => ⟨S2x16x2x64x2x128, .f32⟩
  | .hbm, ⟨20, _⟩ => ⟨S2x16x128x256, .f32⟩
  | .hbm, ⟨21, _⟩ => ⟨S2x16x128x256, .bf16⟩
  | .hbm, ⟨22, _⟩ => ⟨S128x64, .bf16⟩
  | .hbm, ⟨23, _⟩ => ⟨S8x2x256x64, .bf16⟩
  | .local _ .vmem, ⟨0, _⟩ => ⟨S1x4096x128, .f32⟩
  | .local _ .vmem, ⟨1, _⟩ => ⟨S1x4096x128, .f32⟩
  | .local _ .vmem, ⟨2, _⟩ => ⟨S32x128, .f32⟩
  | .local _ .vmem, ⟨3, _⟩ => ⟨S2x16x128x256, .bf16⟩
  | .local _ .vmem, ⟨4, _⟩ => ⟨S128x64, .bf16⟩
  | .local _ .vmem, ⟨5, _⟩ => ⟨S1x2x256x64, .bf16⟩
  | .local _ .vmem, ⟨6, _⟩ => ⟨S1x2x256x64, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x16x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8x4096x256 : Shape := ⟨3, ![8, 4096, 256]⟩
abbrev S32x64 : Shape := ⟨2, ![32, 64]⟩
abbrev S2048x128 : Shape := ⟨2, ![2048, 128]⟩
abbrev S128x64 : Shape := ⟨2, ![128, 64]⟩
abbrev S8x4096x128 : Shape := ⟨3, ![8, 4096, 128]⟩
abbrev S8x4096x2x64 : Shape := ⟨4, ![8, 4096, 2, 64]⟩
abbrev S8x2x4096x64 : Shape := ⟨4, ![8, 2, 4096, 64]⟩
abbrev S8x2x256x16x64 : Shape := ⟨5, ![8, 2, 256, 16, 64]⟩
abbrev S8x2x255x16x64 : Shape := ⟨5, ![8, 2, 255, 16, 64]⟩
abbrev S8x2x1x16x64 : Shape := ⟨5, ![8, 2, 1, 16, 64]⟩
abbrev S8x2x256x32x64 : Shape := ⟨5, ![8, 2, 256, 32, 64]⟩
abbrev S1x1x1x32x64 : Shape := ⟨5, ![1, 1, 1, 32, 64]⟩
abbrev S8x2x256x2048 : Shape := ⟨4, ![8, 2, 256, 2048]⟩
abbrev S8x2x256x128 : Shape := ⟨4, ![8, 2, 256, 128]⟩
abbrev S_ : Shape := ⟨0, ![]⟩
abbrev S8x2x256x64 : Shape := ⟨4, ![8, 2, 256, 64]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S8x4096x128, .f32⟩
  | .hbm, ⟨5, _⟩ => ⟨S8x4096x2x64, .f32⟩
  | .hbm, ⟨6, _⟩ => ⟨S8x2x4096x64, .f32⟩
  | .hbm, ⟨7, _⟩ => ⟨S8x2x256x16x64, .f32⟩
  | .hbm, ⟨8, _⟩ => ⟨S8x2x255x16x64, .f32⟩
  | .hbm, ⟨9, _⟩ => ⟨S8x2x1x16x64, .f32⟩
  | .hbm, ⟨10, _⟩ => ⟨S8x2x256x16x64, .f32⟩
  | .hbm, ⟨11, _⟩ => ⟨S8x2x256x32x64, .f32⟩
  | .hbm, ⟨12, _⟩ => ⟨S1x1x1x32x64, .f32⟩
  | .hbm, ⟨13, _⟩ => ⟨S8x2x256x32x64, .f32⟩
  | .hbm, ⟨14, _⟩ => ⟨S8x2x256x32x64, .f32⟩
  | .hbm, ⟨15, _⟩ => ⟨S8x2x256x2048, .f32⟩
  | .hbm, ⟨16, _⟩ => ⟨S8x2x256x128, .f32⟩
  | .hbm, ⟨17, _⟩ => ⟨S8x2x256x128, .f32⟩
  | .hbm, ⟨18, _⟩ => ⟨S8x2x256x128, .f32⟩
  | .hbm, ⟨19, _⟩ => ⟨S_, .f32⟩
  | .hbm, ⟨20, _⟩ => ⟨S8x2x256x128, .f32⟩
  | .hbm, ⟨21, _⟩ => ⟨S8x2x256x128, .f32⟩
  | .hbm, ⟨22, _⟩ => ⟨S8x2x256x128, .f32⟩
  | .hbm, ⟨23, _⟩ => ⟨S_, .f32⟩
  | .hbm, ⟨24, _⟩ => ⟨S8x2x256x128, .f32⟩
  | .hbm, ⟨25, _⟩ => ⟨S8x2x256x128, .f32⟩
  | .hbm, ⟨26, _⟩ => ⟨S8x2x256x128, .f32⟩
  | .hbm, ⟨27, _⟩ => ⟨S_, .f32⟩
  | .hbm, ⟨28, _⟩ => ⟨S8x2x256x128, .f32⟩
  | .hbm, ⟨29, _⟩ => ⟨S8x2x256x128, .f32⟩
  | .hbm, ⟨30, _⟩ => ⟨S_, .f32⟩
  | .hbm, ⟨31, _⟩ => ⟨S8x2x256x128, .f32⟩
  | .hbm, ⟨32, _⟩ => ⟨S8x2x256x128, .f32⟩
  | .hbm, ⟨33, _⟩ => ⟨S8x2x256x128, .f32⟩
  | .hbm, ⟨34, _⟩ => ⟨S8x2x256x64, .f32⟩
  | .hbm, ⟨35, _⟩ => ⟨S8x2x256x64, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel6.lean ====
abbrev S8x4096x256 : Shape := ⟨3, ![8, 4096, 256]⟩
abbrev S32x64 : Shape := ⟨2, ![32, 64]⟩
abbrev S2048x128 : Shape := ⟨2, ![2048, 128]⟩
abbrev S128x64 : Shape := ⟨2, ![128, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S2x16x64x128 : Shape := ⟨4, ![2, 16, 64, 128]⟩
abbrev S2x16x1x64x1x128 : Shape := ⟨6, ![2, 16, 1, 64, 1, 128]⟩
abbrev S2x2 : Shape := ⟨2, ![2, 2]⟩
abbrev S_ : Shape := ⟨0, ![]⟩
abbrev S1x1x2x1x2x1 : Shape := ⟨6, ![1, 1, 2, 1, 2, 1]⟩
abbrev S2x16x2x64x2x128 : Shape := ⟨6, ![2, 16, 2, 64, 2, 128]⟩
abbrev S2x16x128x256 : Shape := ⟨4, ![2, 16, 128, 256]⟩
abbrev S64x128 : Shape := ⟨2, ![64, 128]⟩
abbrev S8x2x64x256 : Shape := ⟨4, ![8, 2, 64, 256]⟩
abbrev S1x4096x128 : Shape := ⟨3, ![1, 4096, 128]⟩
abbrev S1x2x64x256 : Shape := ⟨4, ![1, 2, 64, 256]⟩
abbrev S1x256x128 : Shape := ⟨3, ![1, 256, 128]⟩
abbrev S256x128 : Shape := ⟨2, ![256, 128]⟩
abbrev S1x128 : Shape := ⟨2, ![1, 128]⟩
abbrev S1x1x128x256 : Shape := ⟨4, ![1, 1, 128, 256]⟩
abbrev S128x256 : Shape := ⟨2, ![128, 256]⟩
abbrev S256x256 : Shape := ⟨2, ![256, 256]⟩
abbrev S64x256 : Shape := ⟨2, ![64, 256]⟩
abbrev S1x1x64x256 : Shape := ⟨4, ![1, 1, 64, 256]⟩

abbrev nBuf : Space → Nat
  | .hbm => 25
  | .vmem => 7
  | .smem => 0
  | _ => 0

abbrev bufTy : (tb : Table) → Fin (tcTables nBuf tb) → BufTy
  | .hbm, ⟨0, _⟩ => ⟨S8x4096x256, .f32⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S1x32x1x64, .f32⟩
  | .hbm, ⟨5, _⟩ => ⟨S1x32x2x64, .f32⟩
  | .hbm, ⟨6, _⟩ => ⟨S32x128, .f32⟩
  | .hbm, ⟨7, _⟩ => ⟨S2x16x64x128, .f32⟩
  | .hbm, ⟨8, _⟩ => ⟨S2x16x1x64x1x128, .f32⟩
  | .hbm, ⟨9, _⟩ => ⟨S2x2, .i32⟩
  | .hbm, ⟨10, _⟩ => ⟨S2x2, .i32⟩
  | .hbm, ⟨11, _⟩ => ⟨S_, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S2x2, .f32⟩
  | .hbm, ⟨16, _⟩ => ⟨S1x1x2x1x2x1, .f32⟩
  | .hbm, ⟨17, _⟩ => ⟨S2x16x2x64x2x128, .f32⟩
  | .hbm, ⟨18, _⟩ => ⟨S2x16x2x64x2x128, .f32⟩
  | .hbm, ⟨19, _⟩ => ⟨S2x16x2x64x2x128, .f32⟩
  | .hbm, ⟨20, _⟩ => ⟨S2x16x128x256, .f32⟩
  | .hbm, ⟨21, _⟩ => ⟨S2x16x128x256, .bf16⟩
  | .hbm, ⟨22, _⟩ => ⟨S64x128, .f32⟩
  | .hbm, ⟨23, _⟩ => ⟨S64x128, .bf16⟩
  | .hbm, ⟨24, _⟩ => ⟨S8x2x64x256, .bf16⟩
  | .local _ .vmem, ⟨0, _⟩ => ⟨S1x4096x128, .f32⟩
  | .local _ .vmem, ⟨1, _⟩ => ⟨S1x4096x128, .f32⟩
  | .local _ .vmem, ⟨2, _⟩ => ⟨S32x128, .f32⟩
  | .local _ .vmem, ⟨3, _⟩ => ⟨S2x16x128x256, .bf16⟩
  | .local _ .vmem, ⟨4, _⟩ => ⟨S64x128, .bf16⟩
  | .local _ .vmem, ⟨5, _⟩ => ⟨S1x2x64x256, .bf16⟩
  | .local _ .vmem, ⟨6, _⟩ => ⟨S1x2x64x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x16x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8x4096x256 : Shape := ⟨3, ![8, 4096, 256]⟩
abbrev S32x64 : Shape := ⟨2, ![32, 64]⟩
abbrev S2048x128 : Shape := ⟨2, ![2048, 128]⟩
abbrev S128x64 : Shape := ⟨2, ![128, 64]⟩
abbrev S8x4096x128 : Shape := ⟨3, ![8, 4096, 128]⟩
abbrev S8x4096x2x64 : Shape := ⟨4, ![8, 4096, 2, 64]⟩
abbrev S8x2x4096x64 : Shape := ⟨4, ![8, 2, 4096, 64]⟩
abbrev S8x2x256x16x64 : Shape := ⟨5, ![8, 2, 256, 16, 64]⟩
abbrev S8x2x255x16x64 : Shape := ⟨5, ![8, 2, 255, 16, 64]⟩
abbrev S8x2x1x16x64 : Shape := ⟨5, ![8, 2, 1, 16, 64]⟩
abbrev S8x2x256x32x64 : Shape := ⟨5, ![8, 2, 256, 32, 64]⟩
abbrev S1x1x1x32x64 : Shape := ⟨5, ![1, 1, 1, 32, 64]⟩
abbrev S8x2x256x2048 : Shape := ⟨4, ![8, 2, 256, 2048]⟩
abbrev S8x2x256x128 : Shape := ⟨4, ![8, 2, 256, 128]⟩
abbrev S_ : Shape := ⟨0, ![]⟩
abbrev S8x2x256x64 : Shape := ⟨4, ![8, 2, 256, 64]⟩
abbrev S8x2x64x256 : Shape := ⟨4, ![8, 2, 64, 256]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S8x4096x128, .f32⟩
  | .hbm, ⟨5, _⟩ => ⟨S8x4096x2x64, .f32⟩
  | .hbm, ⟨6, _⟩ => ⟨S8x2x4096x64, .f32⟩
  | .hbm, ⟨7, _⟩ => ⟨S8x2x256x16x64, .f32⟩
  | .hbm, ⟨8, _⟩ => ⟨S8x2x255x16x64, .f32⟩
  | .hbm, ⟨9, _⟩ => ⟨S8x2x1x16x64, .f32⟩
  | .hbm, ⟨10, _⟩ => ⟨S8x2x256x16x64, .f32⟩
  | .hbm, ⟨11, _⟩ => ⟨S8x2x256x32x64, .f32⟩
  | .hbm, ⟨12, _⟩ => ⟨S1x1x1x32x64, .f32⟩
  | .hbm, ⟨13, _⟩ => ⟨S8x2x256x32x64, .f32⟩
  | .hbm, ⟨14, _⟩ => ⟨S8x2x256x32x64, .f32⟩
  | .hbm, ⟨15, _⟩ => ⟨S8x2x256x2048, .f32⟩
  | .hbm, ⟨16, _⟩ => ⟨S8x2x256x128, .f32⟩
  | .hbm, ⟨17, _⟩ => ⟨S8x2x256x128, .f32⟩
  | .hbm, ⟨18, _⟩ => ⟨S8x2x256x128, .f32⟩
  | .hbm, ⟨19, _⟩ => ⟨S_, .f32⟩
  | .hbm, ⟨20, _⟩ => ⟨S8x2x256x128, .f32⟩
  | .hbm, ⟨21, _⟩ => ⟨S8x2x256x128, .f32⟩
  | .hbm, ⟨22, _⟩ => ⟨S8x2x256x128, .f32⟩
  | .hbm, ⟨23, _⟩ => ⟨S_, .f32⟩
  | .hbm, ⟨24, _⟩ => ⟨S8x2x256x128, .f32⟩
  | .hbm, ⟨25, _⟩ => ⟨S8x2x256x128, .f32⟩
  | .hbm, ⟨26, _⟩ => ⟨S8x2x256x128, .f32⟩
  | .hbm, ⟨27, _⟩ => ⟨S_, .f32⟩
  | .hbm, ⟨28, _⟩ => ⟨S8x2x256x128, .f32⟩
  | .hbm, ⟨29, _⟩ => ⟨S8x2x256x128, .f32⟩
  | .hbm, ⟨30, _⟩ => ⟨S_, .f32⟩
  | .hbm, ⟨31, _⟩ => ⟨S8x2x256x128, .f32⟩
  | .hbm, ⟨32, _⟩ => ⟨S8x2x256x128, .f32⟩
  | .hbm, ⟨33, _⟩ => ⟨S8x2x256x128, .f32⟩
  | .hbm, ⟨34, _⟩ => ⟨S8x2x256x64, .f32⟩
  | .hbm, ⟨35, _⟩ => ⟨S8x2x256x64, .bf16⟩
  | .hbm, ⟨36, _⟩ => ⟨S8x2x64x256, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.CmpKCell.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpK

open Cert.Kernel5Ideal Cert.Kernel5Ideal.Gen

variable (m : (ℓ : Loc nD τ sig) → Buf (Elt Ideal) ℓ)

/-- Which block of each array a grid point works on. -/
theorem idx : ∀ t : Fin cfg0.N,
    win0_0.index t = ![t.val, 0, 0] ∧ win0_1.index t = ![0, 0] ∧ win0_2.index t = ![0, 0, 0, 0]
    ∧ win0_3.index t = ![0, 0] ∧ win0_4.index t = ![t.val, 0, 0, 0] :=
  (by decide +kernel : ∀ t : Fin grid0.N, _)

/-- The rows of token `16 n + j` of every block `n`, as the kernel loads them. -/
abbrev X (c : Dev nD) (t : Fin cfg0.N) (j : Fin 16) : Vec Ideal S1x256x128 .f32 :=
  View.readAt (Elt Ideal) (ms0_0 t).view
    { off := ![0, j.val, 0], size := ![1, 256, 128], stride := ![1, 16, 1],
      inb := by intro a; have := j.isLt; match a with | ⟨0, _⟩ => right; exact (by decide : 0 + 1 * (1 - 1) < 1) | ⟨1, _⟩ => right; show j.val + 16 * 255 < 4096; omega | ⟨2, _⟩ => right; exact (by decide : 0 + 1 * (128 - 1) < 128) }
    ((hs0_0 t).unread (iblk m c 0 t))

/-- Row `16 h + j` of the positions. -/
abbrev P (c : Dev nD) (t : Fin cfg0.N) (h : Fin 2) (j : Fin 16) : Vec Ideal S1x128 .f32 :=
  View.ld (iblk m c 1 t) (Rect.unit ![16 * h.val + j.val, 0] ![1, 128]
    (by intro a; have := j.isLt; have := h.isLt; match a with | ⟨0, _⟩ => show 16 * h.val + j.val + 1 ≤ 32; omega | ⟨1, _⟩ => exact (by decide : 0 + 128 ≤ 128)))

/-- The weights of token `j` of half `h`. -/
abbrev W (c : Dev nD) (t : Fin cfg0.N) (h : Fin 2) (j : Fin 16) : Vec Ideal S1x1x128x256 .bf16 :=
  View.ld (iblk m c 2 t) (Rect.unit ![h.val, j.val, 0, 0] ![1, 1, 128, 256]
    (by intro a; have := j.isLt; have := h.isLt; match a with | ⟨0, _⟩ => show h.val + 1 ≤ 2; omega | ⟨1, _⟩ => show j.val + 1 ≤ 16; omega | ⟨2, _⟩ => exact (by decide : 0 + 128 ≤ 128) | ⟨3, _⟩ => exact (by decide : 0 + 256 ≤ 256)))

/-- One token's part of the first layer. -/
def part (x : Vec Ideal S1x256x128 .f32) (p : Vec Ideal S1x128 .f32) (w : Vec Ideal S1x1x128x256 .bf16) : FVec Ideal S256x256 .f32 :=
  matmul (φ₁ := .bf16) (φ₂ := .bf16) dot_S256x128_S128x256_S256x256_1_0_0_1_n_n none
    (truncf .bf16 (addf (shapeCast S256x128 x shapeCasts_S1x256x128_S256x128) (broadcastTo S256x128 p broadcasts_S1x128_S256x128)) bitsLt_bf16_f32)
    (shapeCast S128x256 w shapeCasts_S1x1x128x256_S128x256) (constant S256x256 .f32 0x00000000#32)

/-- Sixteen parts, added one after another. -/
def chain (f : Fin 16 → FVec Ideal S256x256 .f32) : FVec Ideal S256x256 .f32 :=
  addf (addf (addf (addf (addf (addf (addf (addf (addf (addf (addf (addf (addf (addf (addf (f ⟨0, by decide⟩) (f ⟨1, by decide⟩)) (f ⟨2, by decide⟩)) (f ⟨3, by decide⟩)) (f ⟨4, by decide⟩)) (f ⟨5, by decide⟩)) (f ⟨6, by decide⟩)) (f ⟨7, by decide⟩)) (f ⟨8, by decide⟩)) (f ⟨9, by decide⟩)) (f ⟨10, by decide⟩)) (f ⟨11, by decide⟩)) (f ⟨12, by decide⟩)) (f ⟨13, by decide⟩)) (f ⟨14, by decide⟩)) (f ⟨15, by decide⟩)

/-- The first layer before its gelu: a block's first sixteen tokens, and the next block's first sixteen as its last. -/
def hidden (c : Dev nD) (t : Fin cfg0.N) : FVec Ideal S256x256 .f32 :=
  addf (chain fun j => part (X m c t j) (P m c t 0 j) (W m c t 0 j))
    (dynamicRotate 0 255#32 none (chain fun j => part (X m c t j) (P m c t 1 j) (W m c t 1 j)) rotates_S256x256_d0)

/-- The gelu as the kernel computes it. -/
def act (v : FVec Ideal S256x256 .f32) : FVec Ideal S256x256 .bf16 :=
  truncf .bf16 (mulf v (mulf (broadcast S256x256 (Scalar.ofBits .f32 0x3F000000#32)) (addf (broadcast S256x256 (Scalar.ofBits .f32 0x3F800000#32))
    (tanh (mulf (broadcast S256x256 (Scalar.ofBits .f32 0x3F4C422A#32)) (addf v (mulf (broadcast S256x256 (Scalar.ofBits .f32 0x3D372713#32)) (mulf v (mulf v v)))))))))
    bitsLt_bf16_f32

/-- What one head's store writes: the second layer of its half of the columns. -/
def second (v : FVec Ideal S256x128 .bf16) (w : Vec Ideal S128x64 .bf16) : FVec Ideal S1x1x256x64 .bf16 :=
  shapeCast S1x1x256x64 (truncf .bf16 (matmul (φ₁ := .bf16) (φ₂ := .bf16) dot_S256x128_S128x64_S256x64_1_0_0_1_n_n none v (shapeCast S128x64 w shapeCasts_S128x64_S128x64)
    (constant S256x64 .f32 0x00000000#32)) bitsLt_bf16_f32) shapeCasts_S256x64_S1x1x256x64

/-- What a grid point leaves: the two heads' stores. -/
theorem left (c : Dev nD) (t : Fin cfg0.N) : outsAt0 m c t = View.canon
    [⟨Rect.unit ![0, 1, 0, 0] ![1, 1, 256, 64] inb_S1x2x256x64_S1x1x256x64_0_1_0_0,
      second (extractStridedSlice S256x128 ![0, 128] (act (hidden m c t)) slices_S256x256_o0_128_S256x128) (iblk m c 3 t)⟩,
     ⟨Rect.unit ![0, 0, 0, 0] ![1, 1, 256, 64] inb_S1x2x256x64_S1x1x256x64_0_0_0_0,
      second (extractStridedSlice S256x128 ![0, 0] (act (hidden m c t)) slices_S256x256_o0_0_S256x128) (iblk m c 3 t)⟩] := by
  unfold outsAt0
  frame_out
  unfold_payloads
  unfold second act hidden chain part
  rfl

/-- An entry of the rows as loaded. -/
theorem X_apply (c : Dev nD) (t : Fin cfg0.N) (j : Fin 16) (n : Fin 256) (k : Fin 128) :
    X m c t j (ix3 0 n k) = iblk m c 0 t (ix3 0 ⟨16 * n.val + j.val, by omega⟩ k) := by
  unfold X
  rw [View.readAt_apply, (hs0_0 t).read_unread]
  refine congrArg (iblk m c 0 t) (funext fun a => Fin.ext ?_)
  rw [LoadRect.idx_apply]
  match a with
  | ⟨0, _⟩ => rfl
  | ⟨1, _⟩ => show j.val + 16 * n.val = 16 * n.val + j.val; omega
  | ⟨2, _⟩ => show 0 + 1 * k.val = k.val; omega

/-- An entry of one token's part. -/
theorem part_apply (x : Vec Ideal S1x256x128 .f32) (p : Vec Ideal S1x128 .f32) (w : Vec Ideal S1x1x128x256 .bf16) (n q : Fin 256) :
    part x p w (ix2 n q) = ∑ k : Fin 128, HMul.hMul (α := EReal) (β := EReal) (γ := EReal) (HAdd.hAdd (α := EReal) (β := EReal) (γ := EReal) (x (ix3 0 n k)) (p (ix2 0 k))) (w (ix4 0 0 k q)) := by
  unfold part
  pointwise

/-- An entry of the sixteen parts' sum. -/
theorem chain_apply (f : Fin 16 → FVec Ideal S256x256 .f32) (i : S256x256.Idx) : chain f i = Finset.sum (M := EReal) Finset.univ fun j : Fin 16 => f j i := by
  simp only [Fin.sum_univ_castSucc, Finset.univ_eq_empty, Finset.sum_empty, zero_add]
  rfl

/-- An entry of a row of the positions. -/
theorem P_apply (c : Dev nD) (t : Fin cfg0.N) (h : Fin 2) (j : Fin 16) (k : Fin 128) :
    P m c t h j (ix2 0 k) = iblk m c 1 t (ix2 ⟨16 * h.val + j.val, by omega⟩ k) := by
  unfold P
  pointwise

/-- An entry of one token's weights. -/
theorem W_apply (c : Dev nD) (t : Fin cfg0.N) (h : Fin 2) (j : Fin 16) (k : Fin 128) (q : Fin 256) :
    W m c t h j (ix4 0 0 k q) = iblk m c 2 t (ix4 h j k q) := by
  unfold W
  pointwise

/-- An entry of the first layer: the second half comes from the next block, after the last from the first. -/
theorem hidden_apply (c : Dev nD) (t : Fin cfg0.N) (n q : Fin 256) : hidden m c t (ix2 n q) = HAdd.hAdd (α := EReal) (β := EReal) (γ := EReal)
    (chain (fun j => part (X m c t j) (P m c t 0 j) (W m c t 0 j)) (ix2 n q))
    (chain (fun j => part (X m c t j) (P m c t 1 j) (W m c t 1 j)) (ix2 ⟨(n.val + 1) % 256, by omega⟩ q)) := by
  unfold hidden
  pointwise
  have e : n.val + 256 - 255 = n.val + 1 := by omega
  simp only [e]

end Cert.CmpK

end
-- ==== Proof.CmpSums.lean ====
module

public import Idealize.ShloMosaic.PureOps.Ideal
public import Idealize.ShloMosaic.PureOps.Ideal.Laws
public import Idealize.ShloMosaic.Lib.StableHlo

@[expose] public section

noncomputable section

namespace Cert.CmpSums

/-- A sum over 128 columns, head by head. -/
theorem two_heads (f : Fin 128 → EReal) : ∑ k, f k = (∑ e : Fin 64, f ⟨e.val, by omega⟩) + ∑ e : Fin 64, f ⟨64 + e.val, by omega⟩ :=
  Fin.sum_univ_add (a := 64) (b := 64) f

/-- A sum over 1024 rows, token by token. -/
theorem tokens (f : Fin 1024 → EReal) : ∑ s, f s = ∑ j : Fin 16, ∑ e : Fin 64, f ⟨j.val * 64 + e.val, by omega⟩ := by
  rw [← Equiv.sum_comp (finProdFinEquiv (m := 16) (n := 64)) f, Fintype.sum_prod_type]
  refine Finset.sum_congr rfl fun j _ => Finset.sum_congr rfl fun e _ => congrArg f (Fin.ext ?_)
  show e.val + 64 * j.val = j.val * 64 + e.val
  omega

/-- A sum over 2048 rows, half by half and token by token. -/
theorem two_halves (f : Fin 2048 → EReal) : ∑ s, f s = (∑ j : Fin 16, ∑ e : Fin 64, f ⟨j.val * 64 + e.val, by omega⟩)
    + ∑ j : Fin 16, ∑ e : Fin 64, f ⟨1024 + (j.val * 64 + e.val), by omega⟩ := by
  rw [show ∑ s, f s = (∑ s : Fin 1024, f ⟨s.val, by omega⟩) + ∑ s : Fin 1024, f ⟨1024 + s.val, by omega⟩ from Fin.sum_univ_add (a := 1024) (b := 1024) f,
    tokens, tokens]

/-- Weights that are zero outside one head leave that head's columns of the sum. -/
theorem one_head (x : Fin 128 → EReal) (w : Fin 128 → EReal) (g : Fin 2) (y v : Fin 64 → EReal)
    (hx : ∀ e : Fin 64, x ⟨g.val * 64 + e.val, by omega⟩ = y e)
    (hw : ∀ (g' : Fin 2) (e : Fin 64), w ⟨g'.val * 64 + e.val, by omega⟩ = if g' = g then v e else 0) :
    ∑ k, x k * w k = ∑ e, y e * v e := by
  rw [two_heads]
  have h0 := fun e => hw 0 e
  have h1 := fun e => hw 1 e
  simp only [Fin.val_zero, Fin.val_one, zero_mul, one_mul, zero_add] at h0 h1
  match g with
  | ⟨0, _⟩ =>
    simp only [Fin.zero_eta, reduceCtorEq, one_ne_zero, if_true, if_false, Fin.val_zero, zero_mul, zero_add] at h0 h1 hx
    simp only [h0, h1, hx, mul_zero, Finset.sum_const_zero, add_zero]
  | ⟨1, _⟩ =>
    simp only [Fin.mk_one, zero_ne_one, if_true, if_false, Fin.val_one, one_mul] at h0 h1 hx
    simp only [h0, h1, hx, mul_zero, Finset.sum_const_zero, zero_add]

open Idealize.ShloMosaic

/-- The gelu by the hyperbolic tangent, with the two programs' constants. -/
def gelu (x : EReal) : EReal :=
  x * (Ideal.ofBits .f32 0x3F000000#32 * (Ideal.ofBits .f32 0x3F800000#32 + Ideal.tanh (Ideal.ofBits .f32 0x3F4C422A#32
    * (x + Ideal.ofBits .f32 0x3D372713#32 * (x * x * x)))))

/-- One hidden value of block `n` of one head: sixteen tokens from `16 n`, and the sixteen after them, the first follow the last. -/
def layer (x : Fin 4096 → Fin 64 → EReal) (p : Fin 32 → Fin 64 → EReal) (w : Fin 2048 → EReal) (n : Fin 256) : EReal :=
  (∑ j : Fin 16, ∑ e : Fin 64, (x ⟨16 * n.val + j.val, by omega⟩ e + p ⟨j.val, by omega⟩ e) * w ⟨j.val * 64 + e.val, by omega⟩)
    + ∑ j : Fin 16, ∑ e : Fin 64, (x ⟨16 * ((n.val + 1) % 256) + j.val, by omega⟩ e + p ⟨16 + j.val, by omega⟩ e) * w ⟨1024 + (j.val * 64 + e.val), by omega⟩

end Cert.CmpSums

end
-- ==== Proof.CmpKValue.lean ====
module

public import proofs.«01_k».proof.Proof.CmpKCell
public import proofs.«01_k».proof.Proof.CmpSums

@[expose] public section

set_option maxRecDepth 16384

noncomputable section

open Idealize.ShloMosaic Idealize.ShloMosaic.TcCoe Idealize.SL.Sem
open Idealize.ShloMosaic.Pipeline (Dat)

namespace Cert.CmpK

open Cert.Kernel5Ideal Cert.Kernel5Ideal.Gen

variable (m : (ℓ : Loc nD τ sig) → Buf (Elt Ideal) ℓ)

/-- There are eight grid points, one for each batch entry. -/
theorem lt8 (t : Fin cfg0.N) : t.val < 8 := t.isLt

/-! ## The host's arrays -/

/-- The positions as the kernel gets them: twice beside themselves. -/
theorem pos_eq (c : Dev nD) : V m c main_v2 = shapeCast S32x128 (broadcastInDim S1x32x2x64 ![0, 1, 2, 3] bcast_S1x32x1x64_S1x32x2x64_0_1_2_3
    (shapeCast S1x32x1x64 (m ((c : Thread nD τ).loc main_arg1)) shapeCasts_S32x64_S1x32x1x64)) shapeCasts_S1x32x2x64_S32x128 := by
  show StableHlo.after _ _ _ = _
  simp only [List.flatten_cons, List.flatten_nil, List.append_nil, List.cons_append, List.nil_append, hostOps0]
  after_results_simp
  rfl

/-- The weights of the first layer, for both heads at once: zero between different heads. -/
def weights (w : FVec Ideal S2048x128 .f32) : FVec Ideal S2x16x128x256 .bf16 :=
  truncf .bf16 (shapeCast S2x16x128x256 (mulf
    (broadcastInDim S2x16x2x64x2x128 ![0, 1, 2, 3, 4, 5] bcast_S2x16x1x64x1x128_S2x16x2x64x2x128_0_1_2_3_4_5
      (broadcastInDim S2x16x1x64x1x128 ![0, 1, 3, 5] bcast_S2x16x64x128_S2x16x1x64x1x128_0_1_3_5 (shapeCast S2x16x64x128 w shapeCasts_S2048x128_S2x16x64x128)))
    (broadcastInDim S2x16x2x64x2x128 ![0, 1, 2, 3, 4, 5] bcast_S1x1x2x1x2x1_S2x16x2x64x2x128_0_1_2_3_4_5
      (broadcastInDim S1x1x2x1x2x1 ![2, 4] bcast_S2x2_S1x1x2x1x2x1_2_4 (uitofp .f32 (cmpi .eq
        (addi (iotaInDim S2x2 32 0) (broadcastInDim S2x2 ![] bcast_S_S2x2 (constantI S_ 32 0#32))) (iotaInDim S2x2 32 1))))))
    shapeCasts_S2x16x2x64x2x128_S2x16x128x256) bitsLt_bf16_f32

/-- The weights of the first layer as the kernel gets them. -/
theorem weight_eq (c : Dev nD) : V m c main_v16 = weights (m ((c : Thread nD τ).loc main_arg2)) := by
  show StableHlo.after _ _ _ = _
  simp only [List.flatten_cons, List.flatten_nil, List.append_nil, List.cons_append, List.nil_append, hostOps0]
  after_results_simp
  rfl

/-- The weights of the second layer as the kernel gets them. -/
theorem out_weight_eq (c : Dev nD) : V m c main_v17 = truncf (F := Ideal) .bf16 (m ((c : Thread nD τ).loc main_arg3)) bitsLt_bf16_f32 := by
  show StableHlo.after _ _ _ = _
  simp only [List.flatten_cons, List.flatten_nil, List.append_nil, List.cons_append, List.nil_append, hostOps0]
  after_results_simp

/-- An entry of the positions laid out twice. -/
theorem pos_read (z : FVec Ideal S32x64 .f32) (r : Fin 32) (k : Fin 128) :
    shapeCast S32x128 (broadcastInDim S1x32x2x64 ![0, 1, 2, 3] bcast_S1x32x1x64_S1x32x2x64_0_1_2_3
      (shapeCast S1x32x1x64 z shapeCasts_S32x64_S1x32x1x64)) shapeCasts_S1x32x2x64_S32x128 (ix2 r k) = z (ix2 r ⟨k.val % 64, by omega⟩) := by
  pointwise

/-- An entry of the positions, for a feature of either head. -/
theorem pos_apply (c : Dev nD) (t : Fin cfg0.N) (r : Fin 32) (k : Fin 128) :
    iblk m c 1 t (ix2 r k) = m ((c : Thread nD τ).loc main_arg1) (ix2 r ⟨k.val % 64, by omega⟩) := by
  have h : V m c main_v2 (ix2 r k) = m ((c : Thread nD τ).loc main_arg1) (ix2 r ⟨k.val % 64, by omega⟩) := by
    rw [pos_eq]
    exact pos_read _ r k
  rw [← h]
  blk_point [iblk, idx t]

/-- One on the diagonal, zero off it, as the program computes it. -/
theorem unit_bit (g' g : Fin 2) : (FloatOps.uitofp (F := Ideal) FTy.f32 (IntOp.cmpi CmpIPredicate.eq (IntOp.addi (BitVec.ofNat 32 g'.val) 0#32) (BitVec.ofNat 32 g.val)) : Ideal .f32)
    = if g' = g then (1 : EReal) else 0 := by
  match g', g with
  | ⟨0, _⟩, ⟨0, _⟩ => show (((1#1).toNat : ℝ) : EReal) = _; simp
  | ⟨0, _⟩, ⟨1, _⟩ => show (((0#1).toNat : ℝ) : EReal) = _; simp
  | ⟨1, _⟩, ⟨0, _⟩ => show (((0#1).toNat : ℝ) : EReal) = _; simp
  | ⟨1, _⟩, ⟨1, _⟩ => show (((1#1).toNat : ℝ) : EReal) = _; simp

/-- An entry of the first layer's weights between two heads. -/
theorem weights_apply (w : FVec Ideal S2048x128 .f32) (h : Fin 2) (j : Fin 16) (g' g : Fin 2) (e : Fin 64) (u : Fin 128) :
    weights w (ix4 h j ⟨g'.val * 64 + e.val, by omega⟩ ⟨g.val * 128 + u.val, by omega⟩)
     = if g' = g then w (ix2 ⟨h.val * 1024 + j.val * 64 + e.val, by omega⟩ u) else 0 := by
  unfold weights
  pointwise
  rw [unit_bit]
  split_ifs
  · exact mul_one (M := EReal) _
  · exact mul_zero (M₀ := EReal) _

/-- The block of first-layer weights is all of them, at every grid point. -/
theorem iblk_w (c : Dev nD) (t : Fin cfg0.N) (h : Fin 2) (j : Fin 16) (k : Fin 128) (q : Fin 256) :
    iblk m c 2 t (ix4 h j k q) = weights (m ((c : Thread nD τ).loc main_arg2)) (ix4 h j k q) := by
  rw [← weight_eq]
  blk_point [iblk, idx t]

/-- The block of second-layer weights is all of them, at every grid point. -/
theorem iblk_o (c : Dev nD) (t : Fin cfg0.N) (k : Fin 128) (d : Fin 64) :
    iblk m c 3 t (ix2 k d) = m ((c : Thread nD τ).loc main_arg3) (ix2 k d) := by
  have h : V m c main_v17 (ix2 k d) = m ((c : Thread nD τ).loc main_arg3) (ix2 k d) := by
    rw [out_weight_eq]
    pointwise
  rw [← h]
  blk_point [iblk, idx t]

/-- The block of tokens of a grid point is those of its batch entry. -/
theorem iblk_x (c : Dev nD) (t : Fin cfg0.N) (n : Fin 4096) (k : Fin 128) :
    iblk m c 0 t (ix3 0 n k) = m ((c : Thread nD τ).loc main_arg0) (ix3 ⟨t.val, lt8 t⟩ n ⟨k.val, by omega⟩) := by
  blk_point [iblk, V, idx t]

/-- An entry of what one store writes. -/
theorem second_apply (v : FVec Ideal S256x128 .bf16) (w : Vec Ideal S128x64 .bf16) (n : Fin 256) (d : Fin 64) :
    second v w (ix4 0 0 n d) = ∑ k : Fin 128, HMul.hMul (α := EReal) (β := EReal) (γ := EReal) (v (ix2 n k)) (w (ix2 k d)) := by
  unfold second
  pointwise

/-- An entry of what a grid point leaves, for either head. -/
theorem outs_apply (c : Dev nD) (t : Fin cfg0.N) (g : Fin 2) (n : Fin 256) (d : Fin 64) :
    outsAt0 m c t (ix4 0 g n d) = ∑ k : Fin 128, HMul.hMul (α := EReal) (β := EReal) (γ := EReal) (act (hidden m c t) (ix2 n ⟨g.val * 128 + k.val, by omega⟩)) (iblk m c 3 t (ix2 k d)) := by
  have hit : ∀ (r : Rect S1x2x256x64) (w : r.shape.Idx → Elt Ideal .bf16) (L : List (View.Piece (Elt Ideal) S1x2x256x64 .bf16)) (y : S1x2x256x64.Idx)
      (x : r.shape.Idx) (h : ∀ a, (y a : ℕ) = r.emb x a), View.canon (⟨r, w⟩ :: L) y = w x := fun r w L y x h => by
    rw [show y = r.emb x from funext fun a => Fin.ext (h a), View.canon_cons_emb]
  rw [left]
  match g with
  | ⟨0, _⟩ =>
    rw [View.canon_cons_of_not_mem]
    · rw [hit _ _ _ _ (ix4 0 0 n d) (fun a => by
        rw [ValueKit.rect_emb_unit_val]
        match a with
        | ⟨0, _⟩ => rfl
        | ⟨1, _⟩ => rfl
        | ⟨2, _⟩ => show n.val = 0 + n.val; omega
        | ⟨3, _⟩ => show d.val = 0 + d.val; omega), second_apply]
      pointwise
    · rw [Rect.mem_set_unit]
      intro hm
      exact absurd (hm 1).1 (by decide : ¬ (1 ≤ 0))
  | ⟨1, _⟩ =>
    rw [hit _ _ _ _ (ix4 0 0 n d) (fun a => by
        rw [ValueKit.rect_emb_unit_val]
        match a with
        | ⟨0, _⟩ => rfl
        | ⟨1, _⟩ => rfl
        | ⟨2, _⟩ => show n.val = 0 + n.val; omega
        | ⟨3, _⟩ => show d.val = 0 + d.val; omega), second_apply]
    pointwise

/-- An entry of the kernel's gelu. -/
theorem act_apply (v : FVec Ideal S256x256 .f32) (n q : Fin 256) : act v (ix2 n q) = Cert.CmpSums.gelu (v (ix2 n q)) := by
  unfold act Cert.CmpSums.gelu
  rw [mul_assoc (v (ix2 n q) : EReal)]
  rfl

/-- The first layer as the kernel computes it. -/
theorem hidden_eq (c : Dev nD) (t : Fin cfg0.N) (g : Fin 2) (n : Fin 256) (u : Fin 128) :
    hidden m c t (ix2 n ⟨g.val * 128 + u.val, by omega⟩) = Cert.CmpSums.layer
      (fun s e => m ((c : Thread nD τ).loc main_arg0) (ix3 ⟨t.val, lt8 t⟩ s ⟨g.val * 64 + e.val, by omega⟩))
      (fun r e => m ((c : Thread nD τ).loc main_arg1) (ix2 r e)) (fun s => m ((c : Thread nD τ).loc main_arg2) (ix2 s u)) n := by
  have half : ∀ (h : Fin 2) (n : Fin 256), chain (fun j => part (X m c t j) (P m c t h j) (W m c t h j)) (ix2 n ⟨g.val * 128 + u.val, by omega⟩)
      = ∑ j : Fin 16, ∑ e : Fin 64, HMul.hMul (α := EReal) (β := EReal) (γ := EReal) (HAdd.hAdd (α := EReal) (β := EReal) (γ := EReal)
        (m ((c : Thread nD τ).loc main_arg0) (ix3 ⟨t.val, lt8 t⟩ ⟨16 * n.val + j.val, by omega⟩ ⟨g.val * 64 + e.val, by omega⟩))
        (m ((c : Thread nD τ).loc main_arg1) (ix2 ⟨16 * h.val + j.val, by omega⟩ e)))
        (m ((c : Thread nD τ).loc main_arg2) (ix2 ⟨h.val * 1024 + j.val * 64 + e.val, by omega⟩ u)) := fun h n => by
    rw [chain_apply]
    refine Finset.sum_congr rfl fun j _ => ?_
    rw [part_apply]
    refine Cert.CmpSums.one_head (fun k => HAdd.hAdd (α := EReal) (β := EReal) (γ := EReal) (X m c t j (ix3 0 n k)) (P m c t h j (ix2 0 k)))
      (fun k => W m c t h j (ix4 0 0 k ⟨g.val * 128 + u.val, by omega⟩)) g _ _ (fun e => ?_) fun g' e => ?_
    · rw [X_apply, P_apply, iblk_x, pos_apply]
      have e1 : (g.val * 64 + e.val) % 64 = e.val := by omega
      simp only [e1]
    · rw [W_apply, iblk_w, weights_apply]
  rw [hidden_apply, half, half]
  unfold Cert.CmpSums.layer
  refine congrArg₂ (HAdd.hAdd (α := EReal) (β := EReal) (γ := EReal)) (Finset.sum_congr rfl fun j _ => Finset.sum_congr rfl fun e _ => ?_)
    (Finset.sum_congr rfl fun j _ => Finset.sum_congr rfl fun e _ => ?_)
  · simp only [Fin.val_zero, mul_zero, zero_mul, zero_add]
  · simp only [Fin.val_one, mul_one, one_mul, add_assoc]

/-- Narrowing changes nothing. -/
theorem truncf_id (z : Ideal .f32) (h) : FloatOps.truncf (F := Ideal) .bf16 h z = z := rfl

/-- A constant of the reference is the number of its bits. -/
theorem ofBits_eq (b : BitVec 32) : FloatOps.ofBits (F := Ideal) .f32 b = Ideal.ofBits .f32 b := rfl

/-- The reference's gelu, one operation after another. -/
theorem gelu_ops (a b c d z : Ideal .f32) : FloatOps.mulf z (FloatOps.mulf a (FloatOps.addf b (FloatOps.hostUnary .tanh (FloatOps.mulf c
    (FloatOps.addf z (FloatOps.mulf d (FloatOps.mulf (FloatOps.mulf z z) z)))))))
    = HMul.hMul (α := EReal) (β := EReal) (γ := EReal) z (HMul.hMul (α := EReal) (β := EReal) (γ := EReal) a (HAdd.hAdd (α := EReal) (β := EReal) (γ := EReal) b
      (Ideal.tanh (HMul.hMul (α := EReal) (β := EReal) (γ := EReal) c (HAdd.hAdd (α := EReal) (β := EReal) (γ := EReal) z
        (HMul.hMul (α := EReal) (β := EReal) (γ := EReal) d (HMul.hMul (α := EReal) (β := EReal) (γ := EReal) (HMul.hMul (α := EReal) (β := EReal) (γ := EReal) z z) z))))))) := rfl

/-- The reference's gelu. -/
theorem ref25_apply (x0 : FVec Ideal S8x4096x256 .f32) (x1 : FVec Ideal S32x64 .f32) (x2 : FVec Ideal S2048x128 .f32) (i : Cert.Reference5Ideal.S8x2x256x128.Idx) :
    Cert.Reference5Ideal.Read.val_main_v25 (F := Ideal) x0 x1 x2 i = Cert.CmpSums.gelu (Cert.Reference5Ideal.Read.val_main_v12 (F := Ideal) x0 x1 x2 i) := by
  rw [Cert.Reference5Ideal.Read.val_main_v25_apply, Cert.Reference5Ideal.Read.val_main_v24_apply, Cert.Reference5Ideal.Read.val_main_v23_apply,
    Cert.Reference5Ideal.Read.val_main_v22_apply, Cert.Reference5Ideal.Read.val_main_v21_apply, Cert.Reference5Ideal.Read.val_main_v20_apply,
    Cert.Reference5Ideal.Read.val_main_v19_apply, Cert.Reference5Ideal.Read.val_main_v18_apply, Cert.Reference5Ideal.Read.val_main_v17_apply,
    Cert.Reference5Ideal.Read.val_main_v16_apply, Cert.Reference5Ideal.Read.val_main_v15_apply, Cert.Reference5Ideal.Read.val_main_v14_apply,
    Cert.Reference5Ideal.Read.val_main_v13_apply, Cert.Reference5Ideal.Read.val_main_cst_apply, Cert.Reference5Ideal.Read.val_main_cst_0_apply,
    Cert.Reference5Ideal.Read.val_main_cst_1_apply, Cert.Reference5Ideal.Read.val_main_cst_2_apply]
  generalize Cert.Reference5Ideal.Read.val_main_v12 (F := Ideal) x0 x1 x2 i = z
  unfold Cert.CmpSums.gelu
  rw [ofBits_eq, ofBits_eq, ofBits_eq, ofBits_eq]
  exact gelu_ops _ _ _ _ z

/-- The reference's second layer, from its first layer's gelu. -/
theorem ref_apply (x0 : FVec Ideal S8x4096x256 .f32) (x1 : FVec Ideal S32x64 .f32) (x2 : FVec Ideal S2048x128 .f32) (x3 : FVec Ideal S128x64 .f32)
    (b : Fin 8) (g : Fin 2) (n : Fin 256) (d : Fin 64) :
    Cert.Reference5Ideal.Read.val_main_v27 (F := Ideal) x0 x1 x2 x3 (ix4 b g n d) = ∑ k : Fin 128, HMul.hMul (α := EReal) (β := EReal) (γ := EReal)
      (Cert.CmpSums.gelu (Cert.Reference5Ideal.Read.val_main_v12 (F := Ideal) x0 x1 x2 (ix4 b g n k))) (x3 (ix2 k d)) := by
  rw [Cert.Reference5Ideal.Read.val_main_v27_apply, truncf_id, Cert.Reference5Ideal.Read.val_main_v26_apply]
  refine Finset.sum_congr rfl fun k _ => ?_
  have e1 : Cert.Reference5Ideal.Read.lidx_main_v26 (ix4 b g n d) k = ix4 b g n k := funext fun a => match a with | ⟨0, _⟩ => rfl | ⟨1, _⟩ => rfl | ⟨2, _⟩ => rfl | ⟨3, _⟩ => rfl
  have e2 : Cert.Reference5Ideal.Read.ridx_main_v26 (ix4 b g n d) k = ix2 k d := funext fun a => match a with | ⟨0, _⟩ => rfl | ⟨1, _⟩ => rfl
  rw [e1, e2, ref25_apply]

/-- The reference's blocks: a block's first sixteen tokens, then the next block's. -/
theorem ref11_apply (x0 : FVec Ideal S8x4096x256 .f32) (x1 : FVec Ideal S32x64 .f32)
    (b : Fin 8) (g : Fin 2) (n : Fin 256) (s : Fin 2048) :
    Cert.Reference5Ideal.Read.val_main_v11 (F := Ideal) x0 x1 (ix4 b g n s) = HAdd.hAdd (α := EReal) (β := EReal) (γ := EReal)
      (x0 (ix3 b ⟨if s.val < 1024 then 16 * n.val + s.val / 64 else 16 * ((n.val + 1) % 256) + (s.val / 64 - 16), by split_ifs <;> omega⟩ ⟨g.val * 64 + s.val % 64, by omega⟩))
      (x1 (ix2 ⟨s.val / 64, by omega⟩ ⟨s.val % 64, by omega⟩)) := by
  unfold Cert.Reference5Ideal.Read.val_main_v11 Cert.Reference5Ideal.Read.val_main_v10 Cert.Reference5Ideal.Read.val_main_v9 Cert.Reference5Ideal.Read.val_main_v8
    Cert.Reference5Ideal.Read.val_main_v7 Cert.Reference5Ideal.Read.val_main_v6 Cert.Reference5Ideal.Read.val_main_v5 Cert.Reference5Ideal.Read.val_main_v4
    Cert.Reference5Ideal.Read.val_main_v3 Cert.Reference5Ideal.Read.val_main_v2 Cert.Reference5Ideal.Read.val_main_v1 Cert.Reference5Ideal.Read.val_main_v0
  pointwise
  refine congrArg (fun z : EReal => z + (x1 (ix2 ⟨s.val / 64, by omega⟩ ⟨s.val % 64, by omega⟩) : EReal)) ?_
  split_ifs with h1 h2 h2 h3 <;> first | omega | exact congrArg (fun q => x0 (ix3 b q ⟨g.val * 64 + s.val % 64, by omega⟩)) (Fin.ext (by dsimp only; first | omega | (split_ifs <;> omega)))

/-- The first layer as the reference computes it. -/
theorem ref12_apply (x0 : FVec Ideal S8x4096x256 .f32) (x1 : FVec Ideal S32x64 .f32) (x2 : FVec Ideal S2048x128 .f32)
    (b : Fin 8) (g : Fin 2) (n : Fin 256) (u : Fin 128) :
    Cert.Reference5Ideal.Read.val_main_v12 (F := Ideal) x0 x1 x2 (ix4 b g n u) = Cert.CmpSums.layer
      (fun s e => x0 (ix3 b s ⟨g.val * 64 + e.val, by omega⟩)) (fun r e => x1 (ix2 r e)) (fun s => x2 (ix2 s u)) n := by
  rw [Cert.Reference5Ideal.Read.val_main_v12_apply]
  have e1 : ∀ k, Cert.Reference5Ideal.Read.lidx_main_v12 (ix4 b g n u) k = ix4 b g n k := fun _ => funext fun a => match a with | ⟨0, _⟩ => rfl | ⟨1, _⟩ => rfl | ⟨2, _⟩ => rfl | ⟨3, _⟩ => rfl
  have e2 : ∀ k, Cert.Reference5Ideal.Read.ridx_main_v12 (ix4 b g n u) k = ix2 k u := fun _ => funext fun a => match a with | ⟨0, _⟩ => rfl | ⟨1, _⟩ => rfl
  simp only [e1, e2, ref11_apply]
  refine (Cert.CmpSums.two_halves _).trans ?_
  unfold Cert.CmpSums.layer
  refine congrArg₂ (HAdd.hAdd (α := EReal) (β := EReal) (γ := EReal)) (Finset.sum_congr rfl fun j _ => Finset.sum_congr rfl fun e _ => ?_)
    (Finset.sum_congr rfl fun j _ => Finset.sum_congr rfl fun e _ => ?_)
  · have a1 : j.val * 64 + e.val < 1024 := by omega
    have a2 : (j.val * 64 + e.val) / 64 = j.val := by omega
    have a3 : (j.val * 64 + e.val) % 64 = e.val := by omega
    simp only [a1, a2, a3, if_true]
  · have a1 : ¬ 1024 + (j.val * 64 + e.val) < 1024 := by omega
    have a2 : (1024 + (j.val * 64 + e.val)) / 64 = 16 + j.val := by omega
    have a3 : (1024 + (j.val * 64 + e.val)) % 64 = e.val := by omega
    have a4 : 16 + j.val - 16 = j.val := by omega
    simp only [a1, a2, a3, a4, if_false]

/-- The reference's result as a function of the kernel's own arguments: what the result array is shown to hold. -/
abbrev compressed (c : Dev nD) : Buf (Elt Ideal) ((c : Thread nD τ).loc main_v18) :=
  Cert.Reference5Ideal.Read.val_main_v27 (F := Ideal) (m ((c : Thread nD τ).loc main_arg0)) (m ((c : Thread nD τ).loc main_arg1))
    (m ((c : Thread nD τ).loc main_arg2)) (m ((c : Thread nD τ).loc main_arg3))

/-- The result array after the run is the reference's result of the arguments. -/
theorem final (c : Dev nD) : (dats m 0 c).arrAt 4 cfg0.N = compressed m c := by
  refine (dats m 0 c).arrAt_eq_of_covers 4 _ (by decide +kernel) fun t hf y => ?_
  blk_simp
  rw [after0_4]
  have h0 : (y 0).val < 1 := (y 0).isLt
  have h1 : (y 1).val < 2 := (y 1).isLt
  have h2 : (y 2).val < 256 := (y 2).isLt
  have h3 : (y 3).val < 64 := (y 3).isLt
  have ey : y = ix4 0 ⟨(y 1).val, h1⟩ ⟨(y 2).val, h2⟩ ⟨(y 3).val, h3⟩ := funext fun a => Fin.ext (by
    match a with
    | ⟨0, _⟩ => change (y 0).val = 0; omega
    | ⟨1, _⟩ => rfl
    | ⟨2, _⟩ => rfl
    | ⟨3, _⟩ => rfl)
  have ez : ((View.whole main_v18).slice (win0_4.rect t)).emb y = ix4 ⟨t.val, lt8 t⟩ ⟨(y 1).val, h1⟩ ⟨(y 2).val, h2⟩ ⟨(y 3).val, h3⟩ := funext fun a => Fin.ext (by
    match a with
    | ⟨0, _⟩ => blk_point [idx t]
    | ⟨1, _⟩ => blk_point [idx t]; rfl
    | ⟨2, _⟩ => blk_point [idx t]; rfl
    | ⟨3, _⟩ => blk_point [idx t]; rfl)
  refine (congrArg (outsAt0 m c t) ey).trans (Eq.trans ?_ (congrArg (compressed m c) ez).symm)
  rw [outs_apply]
  refine Eq.trans ?_ (ref_apply _ _ _ _ _ _ _ _).symm
  refine Finset.sum_congr rfl fun k _ => ?_
  rw [act_apply, hidden_eq, iblk_o]
  exact congrArg (fun z : EReal => Cert.CmpSums.gelu z * (m ((c : Thread nD τ).loc main_arg3) (ix2 k ⟨(y 3).val, h3⟩) : EReal)) (ref12_apply _ _ _ _ _ _ _).symm

end Cert.CmpK

namespace Cert.Proof.CmpKClaim

/-- The compression of the keys computes the function its reference defines. -/
theorem algebraic : Cert.algebraic_Kernel5Ideal_Reference5Ideal := by
  intro m ρ m' ρ' _ hagree
  refine ⟨fun c => Cert.CmpK.compressed m c, ?_, ?_⟩
  · exact (θ_run Cert.Kernel5Ideal.defs _ _).mono (fun _ h c => ⟨(h c).1.trans (Cert.CmpK.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    rw [Cert.Reference5Ideal.Read.val_main_v27_eq]
    unfold Cert.CmpK.compressed
    obtain ⟨h0, h1, h2, h3⟩ := hagree c
    rw [h0, h1, h2, h3]

end Cert.Proof.CmpKClaim

end
-- ==== Proof.CmpVCell.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpV

open Cert.Kernel6Ideal Cert.Kernel6Ideal.Gen

variable (m : (ℓ : Loc nD τ sig) → Buf (Elt Ideal) ℓ)

/-- Which block of each array a grid point works on. -/
theorem idx : ∀ t : Fin cfg0.N,
    win0_0.index t = ![t.val, 0, 1] ∧ win0_1.index t = ![0, 0] ∧ win0_2.index t = ![0, 0, 0, 0]
    ∧ win0_3.index t = ![0, 0] ∧ win0_4.index t = ![t.val, 0, 0, 0] :=
  (by decide +kernel : ∀ t : Fin grid0.N, _)

/-- The rows of token `16 n + j` of every block `n`, as the kernel loads them. -/
abbrev X (c : Dev nD) (t : Fin cfg0.N) (j : Fin 16) : Vec Ideal S1x256x128 .f32 :=
  View.readAt (Elt Ideal) (ms0_0 t).view
    { off := ![0, j.val, 0], size := ![1, 256, 128], stride := ![1, 16, 1],
      inb := by intro a; have := j.isLt; match a with | ⟨0, _⟩ => right; exact (by decide : 0 + 1 * (1 - 1) < 1) | ⟨1, _⟩ => right; show j.val + 16 * 255 < 4096; omega | ⟨2, _⟩ => right; exact (by decide : 0 + 1 * (128 - 1) < 128) }
    ((hs0_0 t).unread (iblk m c 0 t))

/-- Row `16 h + j` of the positions. -/
abbrev P (c : Dev nD) (t : Fin cfg0.N) (h : Fin 2) (j : Fin 16) : Vec Ideal S1x128 .f32 :=
  View.ld (iblk m c 1 t) (Rect.unit ![16 * h.val + j.val, 0] ![1, 128]
    (by intro a; have := j.isLt; have := h.isLt; match a with | ⟨0, _⟩ => show 16 * h.val + j.val + 1 ≤ 32; omega | ⟨1, _⟩ => exact (by decide : 0 + 128 ≤ 128)))

/-- The weights of token `j` of half `h`. -/
abbrev W (c : Dev nD) (t : Fin cfg0.N) (h : Fin 2) (j : Fin 16) : Vec Ideal S1x1x128x256 .bf16 :=
  View.ld (iblk m c 2 t) (Rect.unit ![h.val, j.val, 0, 0] ![1, 1, 128, 256]
    (by intro a; have := j.isLt; have := h.isLt; match a with | ⟨0, _⟩ => show h.val + 1 ≤ 2; omega | ⟨1, _⟩ => show j.val + 1 ≤ 16; omega | ⟨2, _⟩ => exact (by decide : 0 + 128 ≤ 128) | ⟨3, _⟩ => exact (by decide : 0 + 256 ≤ 256)))

/-- One token's part of the first layer. -/
def part (x : Vec Ideal S1x256x128 .f32) (p : Vec Ideal S1x128 .f32) (w : Vec Ideal S1x1x128x256 .bf16) : FVec Ideal S256x256 .f32 :=
  matmul (φ₁ := .bf16) (φ₂ := .bf16) dot_S256x128_S128x256_S256x256_1_0_0_1_n_n none
    (truncf .bf16 (addf (shapeCast S256x128 x shapeCasts_S1x256x128_S256x128) (broadcastTo S256x128 p broadcasts_S1x128_S256x128)) bitsLt_bf16_f32)
    (shapeCast S128x256 w shapeCasts_S1x1x128x256_S128x256) (constant S256x256 .f32 0x00000000#32)

/-- Sixteen parts, added one after another. -/
def chain (f : Fin 16 → FVec Ideal S256x256 .f32) : FVec Ideal S256x256 .f32 :=
  addf (addf (addf (addf (addf (addf (addf (addf (addf (addf (addf (addf (addf (addf (addf (f ⟨0, by decide⟩) (f ⟨1, by decide⟩)) (f ⟨2, by decide⟩)) (f ⟨3, by decide⟩)) (f ⟨4, by decide⟩)) (f ⟨5, by decide⟩)) (f ⟨6, by decide⟩)) (f ⟨7, by decide⟩)) (f ⟨8, by decide⟩)) (f ⟨9, by decide⟩)) (f ⟨10, by decide⟩)) (f ⟨11, by decide⟩)) (f ⟨12, by decide⟩)) (f ⟨13, by decide⟩)) (f ⟨14, by decide⟩)) (f ⟨15, by decide⟩)

/-- The first layer before its gelu: a block's first sixteen tokens, and the next block's first sixteen as its last. -/
def hidden (c : Dev nD) (t : Fin cfg0.N) : FVec Ideal S256x256 .f32 :=
  addf (chain fun j => part (X m c t j) (P m c t 0 j) (W m c t 0 j))
    (dynamicRotate 0 255#32 none (chain fun j => part (X m c t j) (P m c t 1 j) (W m c t 1 j)) rotates_S256x256_d0)

/-- The gelu as the kernel computes it. -/
def act (v : FVec Ideal S256x256 .f32) : FVec Ideal S256x256 .bf16 :=
  truncf .bf16 (mulf v (mulf (broadcast S256x256 (Scalar.ofBits .f32 0x3F000000#32)) (addf (broadcast S256x256 (Scalar.ofBits .f32 0x3F800000#32))
    (tanh (mulf (broadcast S256x256 (Scalar.ofBits .f32 0x3F4C422A#32)) (addf v (mulf (broadcast S256x256 (Scalar.ofBits .f32 0x3D372713#32)) (mulf v (mulf v v)))))))))
    bitsLt_bf16_f32

/-- What one head's store writes: the second layer of its half of the columns. -/
def second (v : FVec Ideal S256x128 .bf16) (w : Vec Ideal S64x128 .bf16) : FVec Ideal S1x1x64x256 .bf16 :=
  shapeCast S1x1x64x256 (truncf .bf16 (matmul (φ₁ := .bf16) (φ₂ := .bf16) dot_S64x128_S256x128_S64x256_1_1_0_0_n_n none (shapeCast S64x128 w shapeCasts_S64x128_S64x128) v
    (constant S64x256 .f32 0x00000000#32)) bitsLt_bf16_f32) shapeCasts_S64x256_S1x1x64x256

/-- What a grid point leaves: the two heads' stores. -/
theorem left (c : Dev nD) (t : Fin cfg0.N) : outsAt0 m c t = View.canon
    [⟨Rect.unit ![0, 1, 0, 0] ![1, 1, 64, 256] inb_S1x2x64x256_S1x1x64x256_0_1_0_0,
      second (extractStridedSlice S256x128 ![0, 128] (act (hidden m c t)) slices_S256x256_o0_128_S256x128) (iblk m c 3 t)⟩,
     ⟨Rect.unit ![0, 0, 0, 0] ![1, 1, 64, 256] inb_S1x2x64x256_S1x1x64x256_0_0_0_0,
      second (extractStridedSlice S256x128 ![0, 0] (act (hidden m c t)) slices_S256x256_o0_0_S256x128) (iblk m c 3 t)⟩] := by
  unfold outsAt0
  frame_out
  unfold_payloads
  unfold second act hidden chain part
  rfl

/-- An entry of the rows as loaded. -/
theorem X_apply (c : Dev nD) (t : Fin cfg0.N) (j : Fin 16) (n : Fin 256) (k : Fin 128) :
    X m c t j (ix3 0 n k) = iblk m c 0 t (ix3 0 ⟨16 * n.val + j.val, by omega⟩ k) := by
  unfold X
  rw [View.readAt_apply, (hs0_0 t).read_unread]
  refine congrArg (iblk m c 0 t) (funext fun a => Fin.ext ?_)
  rw [LoadRect.idx_apply]
  match a with
  | ⟨0, _⟩ => rfl
  | ⟨1, _⟩ => show j.val + 16 * n.val = 16 * n.val + j.val; omega
  | ⟨2, _⟩ => show 0 + 1 * k.val = k.val; omega

/-- An entry of one token's part. -/
theorem part_apply (x : Vec Ideal S1x256x128 .f32) (p : Vec Ideal S1x128 .f32) (w : Vec Ideal S1x1x128x256 .bf16) (n q : Fin 256) :
    part x p w (ix2 n q) = ∑ k : Fin 128, HMul.hMul (α := EReal) (β := EReal) (γ := EReal) (HAdd.hAdd (α := EReal) (β := EReal) (γ := EReal) (x (ix3 0 n k)) (p (ix2 0 k))) (w (ix4 0 0 k q)) := by
  unfold part
  pointwise

/-- An entry of the sixteen parts' sum. -/
theorem chain_apply (f : Fin 16 → FVec Ideal S256x256 .f32) (i : S256x256.Idx) : chain f i = Finset.sum (M := EReal) Finset.univ fun j : Fin 16 => f j i := by
  simp only [Fin.sum_univ_castSucc, Finset.univ_eq_empty, Finset.sum_empty, zero_add]
  rfl

/-- An entry of a row of the positions. -/
theorem P_apply (c : Dev nD) (t : Fin cfg0.N) (h : Fin 2) (j : Fin 16) (k : Fin 128) :
    P m c t h j (ix2 0 k) = iblk m c 1 t (ix2 ⟨16 * h.val + j.val, by omega⟩ k) := by
  unfold P
  pointwise

/-- An entry of one token's weights. -/
theorem W_apply (c : Dev nD) (t : Fin cfg0.N) (h : Fin 2) (j : Fin 16) (k : Fin 128) (q : Fin 256) :
    W m c t h j (ix4 0 0 k q) = iblk m c 2 t (ix4 h j k q) := by
  unfold W
  pointwise

/-- An entry of the first layer: the second half comes from the next block, after the last from the first. -/
theorem hidden_apply (c : Dev nD) (t : Fin cfg0.N) (n q : Fin 256) : hidden m c t (ix2 n q) = HAdd.hAdd (α := EReal) (β := EReal) (γ := EReal)
    (chain (fun j => part (X m c t j) (P m c t 0 j) (W m c t 0 j)) (ix2 n q))
    (chain (fun j => part (X m c t j) (P m c t 1 j) (W m c t 1 j)) (ix2 ⟨(n.val + 1) % 256, by omega⟩ q)) := by
  unfold hidden
  pointwise
  have e : n.val + 256 - 255 = n.val + 1 := by omega
  simp only [e]

end Cert.CmpV

end
-- ==== Proof.CmpVValue.lean ====
module

public import proofs.«01_k».proof.Proof.CmpVCell
public import proofs.«01_k».proof.Proof.CmpSums

@[expose] public section

set_option maxRecDepth 16384

noncomputable section

open Idealize.ShloMosaic Idealize.ShloMosaic.TcCoe Idealize.SL.Sem
open Idealize.ShloMosaic.Pipeline (Dat)

namespace Cert.CmpV

open Cert.Kernel6Ideal Cert.Kernel6Ideal.Gen

variable (m : (ℓ : Loc nD τ sig) → Buf (Elt Ideal) ℓ)

/-- There are eight grid points, one for each batch entry. -/
theorem lt8 (t : Fin cfg0.N) : t.val < 8 := t.isLt

/-! ## The host's arrays -/

/-- The positions as the kernel gets them: twice beside themselves. -/
theorem pos_eq (c : Dev nD) : V m c main_v2 = shapeCast S32x128 (broadcastInDim S1x32x2x64 ![0, 1, 2, 3] bcast_S1x32x1x64_S1x32x2x64_0_1_2_3
    (shapeCast S1x32x1x64 (m ((c : Thread nD τ).loc main_arg1)) shapeCasts_S32x64_S1x32x1x64)) shapeCasts_S1x32x2x64_S32x128 := by
  show StableHlo.after _ _ _ = _
  simp only [List.flatten_cons, List.flatten_nil, List.append_nil, List.cons_append, List.nil_append, hostOps0]
  after_results_simp
  rfl

/-- The weights of the first layer, for both heads at once: zero between different heads. -/
def weights (w : FVec Ideal S2048x128 .f32) : FVec Ideal S2x16x128x256 .bf16 :=
  truncf .bf16 (shapeCast S2x16x128x256 (mulf
    (broadcastInDim S2x16x2x64x2x128 ![0, 1, 2, 3, 4, 5] bcast_S2x16x1x64x1x128_S2x16x2x64x2x128_0_1_2_3_4_5
      (broadcastInDim S2x16x1x64x1x128 ![0, 1, 3, 5] bcast_S2x16x64x128_S2x16x1x64x1x128_0_1_3_5 (shapeCast S2x16x64x128 w shapeCasts_S2048x128_S2x16x64x128)))
    (broadcastInDim S2x16x2x64x2x128 ![0, 1, 2, 3, 4, 5] bcast_S1x1x2x1x2x1_S2x16x2x64x2x128_0_1_2_3_4_5
      (broadcastInDim S1x1x2x1x2x1 ![2, 4] bcast_S2x2_S1x1x2x1x2x1_2_4 (uitofp .f32 (cmpi .eq
        (addi (iotaInDim S2x2 32 0) (broadcastInDim S2x2 ![] bcast_S_S2x2 (constantI S_ 32 0#32))) (iotaInDim S2x2 32 1))))))
    shapeCasts_S2x16x2x64x2x128_S2x16x128x256) bitsLt_bf16_f32

/-- The weights of the first layer as the kernel gets them. -/
theorem weight_eq (c : Dev nD) : V m c main_v16 = weights (m ((c : Thread nD τ).loc main_arg2)) := by
  show StableHlo.after _ _ _ = _
  simp only [List.flatten_cons, List.flatten_nil, List.append_nil, List.cons_append, List.nil_append, hostOps0]
  after_results_simp
  rfl

/-- The weights of the second layer as the kernel gets them. -/
theorem out_weight_eq (c : Dev nD) : V m c main_v18 = truncf (F := Ideal) .bf16 (transpose S64x128 [1, 0] (m ((c : Thread nD τ).loc main_arg3)) transposes_S128x64_S64x128_1_0) bitsLt_bf16_f32 := by
  show StableHlo.after _ _ _ = _
  simp only [List.flatten_cons, List.flatten_nil, List.append_nil, List.cons_append, List.nil_append, hostOps0]
  after_results_simp

/-- An entry of the second layer's weights, turned over. -/
theorem out_weight_read (z : FVec Ideal S128x64 .f32) (k : Fin 128) (d : Fin 64) :
    truncf (F := Ideal) .bf16 (transpose S64x128 [1, 0] z transposes_S128x64_S64x128_1_0) bitsLt_bf16_f32 (ix2 d k) = z (ix2 k d) := by
  pointwise

/-- An entry of the positions laid out twice. -/
theorem pos_read (z : FVec Ideal S32x64 .f32) (r : Fin 32) (k : Fin 128) :
    shapeCast S32x128 (broadcastInDim S1x32x2x64 ![0, 1, 2, 3] bcast_S1x32x1x64_S1x32x2x64_0_1_2_3
      (shapeCast S1x32x1x64 z shapeCasts_S32x64_S1x32x1x64)) shapeCasts_S1x32x2x64_S32x128 (ix2 r k) = z (ix2 r ⟨k.val % 64, by omega⟩) := by
  pointwise

/-- An entry of the positions, for a feature of either head. -/
theorem pos_apply (c : Dev nD) (t : Fin cfg0.N) (r : Fin 32) (k : Fin 128) :
    iblk m c 1 t (ix2 r k) = m ((c : Thread nD τ).loc main_arg1) (ix2 r ⟨k.val % 64, by omega⟩) := by
  have h : V m c main_v2 (ix2 r k) = m ((c : Thread nD τ).loc main_arg1) (ix2 r ⟨k.val % 64, by omega⟩) := by
    rw [pos_eq]
    exact pos_read _ r k
  rw [← h]
  blk_point [iblk, idx t]

/-- One on the diagonal, zero off it, as the program computes it. -/
theorem unit_bit (g' g : Fin 2) : (FloatOps.uitofp (F := Ideal) FTy.f32 (IntOp.cmpi CmpIPredicate.eq (IntOp.addi (BitVec.ofNat 32 g'.val) 0#32) (BitVec.ofNat 32 g.val)) : Ideal .f32)
    = if g' = g then (1 : EReal) else 0 := by
  match g', g with
  | ⟨0, _⟩, ⟨0, _⟩ => show (((1#1).toNat : ℝ) : EReal) = _; simp
  | ⟨0, _⟩, ⟨1, _⟩ => show (((0#1).toNat : ℝ) : EReal) = _; simp
  | ⟨1, _⟩, ⟨0, _⟩ => show (((0#1).toNat : ℝ) : EReal) = _; simp
  | ⟨1, _⟩, ⟨1, _⟩ => show (((1#1).toNat : ℝ) : EReal) = _; simp

/-- An entry of the first layer's weights between two heads. -/
theorem weights_apply (w : FVec Ideal S2048x128 .f32) (h : Fin 2) (j : Fin 16) (g' g : Fin 2) (e : Fin 64) (u : Fin 128) :
    weights w (ix4 h j ⟨g'.val * 64 + e.val, by omega⟩ ⟨g.val * 128 + u.val, by omega⟩)
     = if g' = g then w (ix2 ⟨h.val * 1024 + j.val * 64 + e.val, by omega⟩ u) else 0 := by
  unfold weights
  pointwise
  rw [unit_bit]
  split_ifs
  · exact mul_one (M := EReal) _
  · exact mul_zero (M₀ := EReal) _

/-- The block of first-layer weights is all of them, at every grid point. -/
theorem iblk_w (c : Dev nD) (t : Fin cfg0.N) (h : Fin 2) (j : Fin 16) (k : Fin 128) (q : Fin 256) :
    iblk m c 2 t (ix4 h j k q) = weights (m ((c : Thread nD τ).loc main_arg2)) (ix4 h j k q) := by
  rw [← weight_eq]
  blk_point [iblk, idx t]

/-- The block of second-layer weights is all of them, at every grid point. -/
theorem iblk_o (c : Dev nD) (t : Fin cfg0.N) (k : Fin 128) (d : Fin 64) :
    iblk m c 3 t (ix2 d k) = m ((c : Thread nD τ).loc main_arg3) (ix2 k d) := by
  have h : V m c main_v18 (ix2 d k) = m ((c : Thread nD τ).loc main_arg3) (ix2 k d) := by
    rw [out_weight_eq]
    exact out_weight_read _ k d
  rw [← h]
  blk_point [iblk, idx t]

/-- The block of tokens of a grid point is those of its batch entry. -/
theorem iblk_x (c : Dev nD) (t : Fin cfg0.N) (n : Fin 4096) (k : Fin 128) :
    iblk m c 0 t (ix3 0 n k) = m ((c : Thread nD τ).loc main_arg0) (ix3 ⟨t.val, lt8 t⟩ n ⟨128 + k.val, by omega⟩) := by
  blk_point [iblk, V, idx t]

/-- An entry of what one store writes. -/
theorem second_apply (v : FVec Ideal S256x128 .bf16) (w : Vec Ideal S64x128 .bf16) (d : Fin 64) (n : Fin 256) :
    second v w (ix4 0 0 d n) = ∑ k : Fin 128, HMul.hMul (α := EReal) (β := EReal) (γ := EReal) (w (ix2 d k)) (v (ix2 n k)) := by
  unfold second
  pointwise

/-- An entry of what a grid point leaves, for either head. -/
theorem outs_apply (c : Dev nD) (t : Fin cfg0.N) (g : Fin 2) (d : Fin 64) (n : Fin 256) :
    outsAt0 m c t (ix4 0 g d n) = ∑ k : Fin 128, HMul.hMul (α := EReal) (β := EReal) (γ := EReal) (iblk m c 3 t (ix2 d k)) (act (hidden m c t) (ix2 n ⟨g.val * 128 + k.val, by omega⟩)) := by
  have hit : ∀ (r : Rect S1x2x64x256) (w : r.shape.Idx → Elt Ideal .bf16) (L : List (View.Piece (Elt Ideal) S1x2x64x256 .bf16)) (y : S1x2x64x256.Idx)
      (x : r.shape.Idx) (h : ∀ a, (y a : ℕ) = r.emb x a), View.canon (⟨r, w⟩ :: L) y = w x := fun r w L y x h => by
    rw [show y = r.emb x from funext fun a => Fin.ext (h a), View.canon_cons_emb]
  rw [left]
  match g with
  | ⟨0, _⟩ =>
    rw [View.canon_cons_of_not_mem]
    · rw [hit _ _ _ _ (ix4 0 0 d n) (fun a => by
        rw [ValueKit.rect_emb_unit_val]
        match a with
        | ⟨0, _⟩ => rfl
        | ⟨1, _⟩ => rfl
        | ⟨2, _⟩ => show d.val = 0 + d.val; omega
        | ⟨3, _⟩ => show n.val = 0 + n.val; omega), second_apply]
      pointwise
    · rw [Rect.mem_set_unit]
      intro hm
      exact absurd (hm 1).1 (by decide : ¬ (1 ≤ 0))
  | ⟨1, _⟩ =>
    rw [hit _ _ _ _ (ix4 0 0 d n) (fun a => by
        rw [ValueKit.rect_emb_unit_val]
        match a with
        | ⟨0, _⟩ => rfl
        | ⟨1, _⟩ => rfl
        | ⟨2, _⟩ => show d.val = 0 + d.val; omega
        | ⟨3, _⟩ => show n.val = 0 + n.val; omega), second_apply]
    pointwise

/-- An entry of the kernel's gelu. -/
theorem act_apply (v : FVec Ideal S256x256 .f32) (n q : Fin 256) : act v (ix2 n q) = Cert.CmpSums.gelu (v (ix2 n q)) := by
  unfold act Cert.CmpSums.gelu
  rw [mul_assoc (v (ix2 n q) : EReal)]
  rfl

/-- The first layer as the kernel computes it. -/
theorem hidden_eq (c : Dev nD) (t : Fin cfg0.N) (g : Fin 2) (n : Fin 256) (u : Fin 128) :
    hidden m c t (ix2 n ⟨g.val * 128 + u.val, by omega⟩) = Cert.CmpSums.layer
      (fun s e => m ((c : Thread nD τ).loc main_arg0) (ix3 ⟨t.val, lt8 t⟩ s ⟨128 + (g.val * 64 + e.val), by omega⟩))
      (fun r e => m ((c : Thread nD τ).loc main_arg1) (ix2 r e)) (fun s => m ((c : Thread nD τ).loc main_arg2) (ix2 s u)) n := by
  have half : ∀ (h : Fin 2) (n : Fin 256), chain (fun j => part (X m c t j) (P m c t h j) (W m c t h j)) (ix2 n ⟨g.val * 128 + u.val, by omega⟩)
      = ∑ j : Fin 16, ∑ e : Fin 64, HMul.hMul (α := EReal) (β := EReal) (γ := EReal) (HAdd.hAdd (α := EReal) (β := EReal) (γ := EReal)
        (m ((c : Thread nD τ).loc main_arg0) (ix3 ⟨t.val, lt8 t⟩ ⟨16 * n.val + j.val, by omega⟩ ⟨128 + (g.val * 64 + e.val), by omega⟩))
        (m ((c : Thread nD τ).loc main_arg1) (ix2 ⟨16 * h.val + j.val, by omega⟩ e)))
        (m ((c : Thread nD τ).loc main_arg2) (ix2 ⟨h.val * 1024 + j.val * 64 + e.val, by omega⟩ u)) := fun h n => by
    rw [chain_apply]
    refine Finset.sum_congr rfl fun j _ => ?_
    rw [part_apply]
    refine Cert.CmpSums.one_head (fun k => HAdd.hAdd (α := EReal) (β := EReal) (γ := EReal) (X m c t j (ix3 0 n k)) (P m c t h j (ix2 0 k)))
      (fun k => W m c t h j (ix4 0 0 k ⟨g.val * 128 + u.val, by omega⟩)) g _ _ (fun e => ?_) fun g' e => ?_
    · rw [X_apply, P_apply, iblk_x, pos_apply]
      have e1 : (g.val * 64 + e.val) % 64 = e.val := by omega
      simp only [e1]
    · rw [W_apply, iblk_w, weights_apply]
  rw [hidden_apply, half, half]
  unfold Cert.CmpSums.layer
  refine congrArg₂ (HAdd.hAdd (α := EReal) (β := EReal) (γ := EReal)) (Finset.sum_congr rfl fun j _ => Finset.sum_congr rfl fun e _ => ?_)
    (Finset.sum_congr rfl fun j _ => Finset.sum_congr rfl fun e _ => ?_)
  · simp only [Fin.val_zero, mul_zero, zero_mul, zero_add]
  · simp only [Fin.val_one, mul_one, one_mul, add_assoc]

/-- Narrowing changes nothing. -/
theorem truncf_id (z : Ideal .f32) (h) : FloatOps.truncf (F := Ideal) .bf16 h z = z := rfl

/-- A constant of the reference is the number of its bits. -/
theorem ofBits_eq (b : BitVec 32) : FloatOps.ofBits (F := Ideal) .f32 b = Ideal.ofBits .f32 b := rfl

/-- The reference's gelu, one operation after another. -/
theorem gelu_ops (a b c d z : Ideal .f32) : FloatOps.mulf z (FloatOps.mulf a (FloatOps.addf b (FloatOps.hostUnary .tanh (FloatOps.mulf c
    (FloatOps.addf z (FloatOps.mulf d (FloatOps.mulf (FloatOps.mulf z z) z)))))))
    = HMul.hMul (α := EReal) (β := EReal) (γ := EReal) z (HMul.hMul (α := EReal) (β := EReal) (γ := EReal) a (HAdd.hAdd (α := EReal) (β := EReal) (γ := EReal) b
      (Ideal.tanh (HMul.hMul (α := EReal) (β := EReal) (γ := EReal) c (HAdd.hAdd (α := EReal) (β := EReal) (γ := EReal) z
        (HMul.hMul (α := EReal) (β := EReal) (γ := EReal) d (HMul.hMul (α := EReal) (β := EReal) (γ := EReal) (HMul.hMul (α := EReal) (β := EReal) (γ := EReal) z z) z))))))) := rfl

/-- The reference's gelu. -/
theorem ref25_apply (x0 : FVec Ideal S8x4096x256 .f32) (x1 : FVec Ideal S32x64 .f32) (x2 : FVec Ideal S2048x128 .f32) (i : Cert.Reference6Ideal.S8x2x256x128.Idx) :
    Cert.Reference6Ideal.Read.val_main_v25 (F := Ideal) x0 x1 x2 i = Cert.CmpSums.gelu (Cert.Reference6Ideal.Read.val_main_v12 (F := Ideal) x0 x1 x2 i) := by
  rw [Cert.Reference6Ideal.Read.val_main_v25_apply, Cert.Reference6Ideal.Read.val_main_v24_apply, Cert.Reference6Ideal.Read.val_main_v23_apply,
    Cert.Reference6Ideal.Read.val_main_v22_apply, Cert.Reference6Ideal.Read.val_main_v21_apply, Cert.Reference6Ideal.Read.val_main_v20_apply,
    Cert.Reference6Ideal.Read.val_main_v19_apply, Cert.Reference6Ideal.Read.val_main_v18_apply, Cert.Reference6Ideal.Read.val_main_v17_apply,
    Cert.Reference6Ideal.Read.val_main_v16_apply, Cert.Reference6Ideal.Read.val_main_v15_apply, Cert.Reference6Ideal.Read.val_main_v14_apply,
    Cert.Reference6Ideal.Read.val_main_v13_apply, Cert.Reference6Ideal.Read.val_main_cst_apply, Cert.Reference6Ideal.Read.val_main_cst_0_apply,
    Cert.Reference6Ideal.Read.val_main_cst_1_apply, Cert.Reference6Ideal.Read.val_main_cst_2_apply]
  generalize Cert.Reference6Ideal.Read.val_main_v12 (F := Ideal) x0 x1 x2 i = z
  unfold Cert.CmpSums.gelu
  rw [ofBits_eq, ofBits_eq, ofBits_eq, ofBits_eq]
  exact gelu_ops _ _ _ _ z

/-- The reference's second layer, from its first layer's gelu. -/
theorem ref_apply (x0 : FVec Ideal S8x4096x256 .f32) (x1 : FVec Ideal S32x64 .f32) (x2 : FVec Ideal S2048x128 .f32) (x3 : FVec Ideal S128x64 .f32)
    (b : Fin 8) (g : Fin 2) (n : Fin 256) (d : Fin 64) :
    Cert.Reference6Ideal.Read.val_main_v27 (F := Ideal) x0 x1 x2 x3 (ix4 b g n d) = ∑ k : Fin 128, HMul.hMul (α := EReal) (β := EReal) (γ := EReal)
      (Cert.CmpSums.gelu (Cert.Reference6Ideal.Read.val_main_v12 (F := Ideal) x0 x1 x2 (ix4 b g n k))) (x3 (ix2 k d)) := by
  rw [Cert.Reference6Ideal.Read.val_main_v27_apply, truncf_id, Cert.Reference6Ideal.Read.val_main_v26_apply]
  refine Finset.sum_congr rfl fun k _ => ?_
  have e1 : Cert.Reference6Ideal.Read.lidx_main_v26 (ix4 b g n d) k = ix4 b g n k := funext fun a => match a with | ⟨0, _⟩ => rfl | ⟨1, _⟩ => rfl | ⟨2, _⟩ => rfl | ⟨3, _⟩ => rfl
  have e2 : Cert.Reference6Ideal.Read.ridx_main_v26 (ix4 b g n d) k = ix2 k d := funext fun a => match a with | ⟨0, _⟩ => rfl | ⟨1, _⟩ => rfl
  rw [e1, e2, ref25_apply]

/-- The reference's blocks: a block's first sixteen tokens, then the next block's. -/
theorem ref11_apply (x0 : FVec Ideal S8x4096x256 .f32) (x1 : FVec Ideal S32x64 .f32)
    (b : Fin 8) (g : Fin 2) (n : Fin 256) (s : Fin 2048) :
    Cert.Reference6Ideal.Read.val_main_v11 (F := Ideal) x0 x1 (ix4 b g n s) = HAdd.hAdd (α := EReal) (β := EReal) (γ := EReal)
      (x0 (ix3 b ⟨if s.val < 1024 then 16 * n.val + s.val / 64 else 16 * ((n.val + 1) % 256) + (s.val / 64 - 16), by split_ifs <;> omega⟩ ⟨128 + (g.val * 64 + s.val % 64), by omega⟩))
      (x1 (ix2 ⟨s.val / 64, by omega⟩ ⟨s.val % 64, by omega⟩)) := by
  unfold Cert.Reference6Ideal.Read.val_main_v11 Cert.Reference6Ideal.Read.val_main_v10 Cert.Reference6Ideal.Read.val_main_v9 Cert.Reference6Ideal.Read.val_main_v8
    Cert.Reference6Ideal.Read.val_main_v7 Cert.Reference6Ideal.Read.val_main_v6 Cert.Reference6Ideal.Read.val_main_v5 Cert.Reference6Ideal.Read.val_main_v4
    Cert.Reference6Ideal.Read.val_main_v3 Cert.Reference6Ideal.Read.val_main_v2 Cert.Reference6Ideal.Read.val_main_v1 Cert.Reference6Ideal.Read.val_main_v0
  pointwise
  refine congrArg (fun z : EReal => z + (x1 (ix2 ⟨s.val / 64, by omega⟩ ⟨s.val % 64, by omega⟩) : EReal)) ?_
  split_ifs with h1 h2 h2 h3 <;> first | omega | exact congrArg (fun q => x0 (ix3 b q ⟨128 + (g.val * 64 + s.val % 64), by omega⟩)) (Fin.ext (by dsimp only; first | omega | (split_ifs <;> omega)))

/-- The first layer as the reference computes it. -/
theorem ref12_apply (x0 : FVec Ideal S8x4096x256 .f32) (x1 : FVec Ideal S32x64 .f32) (x2 : FVec Ideal S2048x128 .f32)
    (b : Fin 8) (g : Fin 2) (n : Fin 256) (u : Fin 128) :
    Cert.Reference6Ideal.Read.val_main_v12 (F := Ideal) x0 x1 x2 (ix4 b g n u) = Cert.CmpSums.layer
      (fun s e => x0 (ix3 b s ⟨128 + (g.val * 64 + e.val), by omega⟩)) (fun r e => x1 (ix2 r e)) (fun s => x2 (ix2 s u)) n := by
  rw [Cert.Reference6Ideal.Read.val_main_v12_apply]
  have e1 : ∀ k, Cert.Reference6Ideal.Read.lidx_main_v12 (ix4 b g n u) k = ix4 b g n k := fun _ => funext fun a => match a with | ⟨0, _⟩ => rfl | ⟨1, _⟩ => rfl | ⟨2, _⟩ => rfl | ⟨3, _⟩ => rfl
  have e2 : ∀ k, Cert.Reference6Ideal.Read.ridx_main_v12 (ix4 b g n u) k = ix2 k u := fun _ => funext fun a => match a with | ⟨0, _⟩ => rfl | ⟨1, _⟩ => rfl
  simp only [e1, e2, ref11_apply]
  refine (Cert.CmpSums.two_halves _).trans ?_
  unfold Cert.CmpSums.layer
  refine congrArg₂ (HAdd.hAdd (α := EReal) (β := EReal) (γ := EReal)) (Finset.sum_congr rfl fun j _ => Finset.sum_congr rfl fun e _ => ?_)
    (Finset.sum_congr rfl fun j _ => Finset.sum_congr rfl fun e _ => ?_)
  · have a1 : j.val * 64 + e.val < 1024 := by omega
    have a2 : (j.val * 64 + e.val) / 64 = j.val := by omega
    have a3 : (j.val * 64 + e.val) % 64 = e.val := by omega
    simp only [a1, a2, a3, if_true]
  · have a1 : ¬ 1024 + (j.val * 64 + e.val) < 1024 := by omega
    have a2 : (1024 + (j.val * 64 + e.val)) / 64 = 16 + j.val := by omega
    have a3 : (1024 + (j.val * 64 + e.val)) % 64 = e.val := by omega
    have a4 : 16 + j.val - 16 = j.val := by omega
    simp only [a1, a2, a3, a4, if_false]

/-- The reference's result has the features before the blocks. -/
theorem ref28_apply (x0 : FVec Ideal S8x4096x256 .f32) (x1 : FVec Ideal S32x64 .f32) (x2 : FVec Ideal S2048x128 .f32) (x3 : FVec Ideal S128x64 .f32)
    (b : Fin 8) (g : Fin 2) (n : Fin 256) (d : Fin 64) :
    Cert.Reference6Ideal.Read.val_main_v28 (F := Ideal) x0 x1 x2 x3 (ix4 b g d n) = Cert.Reference6Ideal.Read.val_main_v27 (F := Ideal) x0 x1 x2 x3 (ix4 b g n d) := by
  rw [Cert.Reference6Ideal.Read.val_main_v28_apply]
  exact congrArg _ (funext fun a => match a with | ⟨0, _⟩ => rfl | ⟨1, _⟩ => rfl | ⟨2, _⟩ => rfl | ⟨3, _⟩ => rfl)

/-- The reference's result as a function of the kernel's own arguments: what the result array is shown to hold. -/
abbrev compressed (c : Dev nD) : Buf (Elt Ideal) ((c : Thread nD τ).loc main_v19) :=
  Cert.Reference6Ideal.Read.val_main_v28 (F := Ideal) (m ((c : Thread nD τ).loc main_arg0)) (m ((c : Thread nD τ).loc main_arg1))
    (m ((c : Thread nD τ).loc main_arg2)) (m ((c : Thread nD τ).loc main_arg3))

/-- The result array after the run is the reference's result of the arguments. -/
theorem final (c : Dev nD) : (dats m 0 c).arrAt 4 cfg0.N = compressed m c := by
  refine (dats m 0 c).arrAt_eq_of_covers 4 _ (by decide +kernel) fun t hf y => ?_
  blk_simp
  rw [after0_4]
  have h0 : (y 0).val < 1 := (y 0).isLt
  have h1 : (y 1).val < 2 := (y 1).isLt
  have h2 : (y 2).val < 64 := (y 2).isLt
  have h3 : (y 3).val < 256 := (y 3).isLt
  have ey : y = ix4 0 ⟨(y 1).val, h1⟩ ⟨(y 2).val, h2⟩ ⟨(y 3).val, h3⟩ := funext fun a => Fin.ext (by
    match a with
    | ⟨0, _⟩ => change (y 0).val = 0; omega
    | ⟨1, _⟩ => rfl
    | ⟨2, _⟩ => rfl
    | ⟨3, _⟩ => rfl)
  have ez : ((View.whole main_v19).slice (win0_4.rect t)).emb y = ix4 ⟨t.val, lt8 t⟩ ⟨(y 1).val, h1⟩ ⟨(y 2).val, h2⟩ ⟨(y 3).val, h3⟩ := funext fun a => Fin.ext (by
    match a with
    | ⟨0, _⟩ => blk_point [idx t]
    | ⟨1, _⟩ => blk_point [idx t]; rfl
    | ⟨2, _⟩ => blk_point [idx t]; rfl
    | ⟨3, _⟩ => blk_point [idx t]; rfl)
  refine (congrArg (outsAt0 m c t) ey).trans (Eq.trans ?_ (congrArg (compressed m c) ez).symm)
  rw [outs_apply]
  refine Eq.trans ?_ ((ref28_apply _ _ _ _ _ _ _ _).trans (ref_apply _ _ _ _ _ _ _ _)).symm
  refine Finset.sum_congr rfl fun k _ => ?_
  rw [act_apply, hidden_eq, iblk_o]
  refine (mul_comm (G := EReal) _ _).trans ?_
  exact congrArg (fun z : EReal => Cert.CmpSums.gelu z * (m ((c : Thread nD τ).loc main_arg3) (ix2 k ⟨(y 2).val, h2⟩) : EReal)) (ref12_apply _ _ _ _ _ _ _).symm

end Cert.CmpV

namespace Cert.Proof.CmpVClaim

/-- The compression of the values computes the function its reference defines. -/
theorem algebraic : Cert.algebraic_Kernel6Ideal_Reference6Ideal := by
  intro m ρ m' ρ' _ hagree
  refine ⟨fun c => Cert.CmpV.compressed m c, ?_, ?_⟩
  · exact (θ_run Cert.Kernel6Ideal.defs _ _).mono (fun _ h c => ⟨(h c).1.trans (Cert.CmpV.final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    rw [Cert.Reference6Ideal.Read.val_main_v28_eq]
    unfold Cert.CmpV.compressed
    obtain ⟨h0, h1, h2, h3⟩ := hagree c
    rw [h0, h1, h2, h3]

end Cert.Proof.CmpVClaim

end
-- ==== Proof.AttnMath.lean ====
module

public import Idealize.ShloMosaic.PureOps.Ideal
public import Idealize.ShloMosaic.PureOps.Ideal.Laws
public import Idealize.ShloMosaic.Lib.StableHlo

@[expose] public section

noncomputable section

namespace Cert.AttnMath

open Idealize.ShloMosaic

/-- A finite sum of reals, read on the extended reals, is the extended sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of the visible scores is one of them. -/
theorem fold_max {ι : Type} [Fintype ι] (m : ι → Prop) [DecidablePred m] (a : ι → ℝ) (k : ι) (hm : m k)
    (hk : ∀ i, m i → a i ≤ a k) :
    (Finset.univ : Finset ι).fold max (⊥ : EReal) (fun i => if m i then (a i : EReal) else ⊥) = (a k : EReal) := by
  change Finset.univ.sup (fun i => if m i then (a i : EReal) else ⊥) = _
  apply le_antisymm
  · apply Finset.sup_le
    intro i _
    by_cases h : m i
    · simp only [h, if_true]; exact_mod_cast hk i h
    · simp [h]
  · have := Finset.le_sup (f := fun i => if m i then (a i : EReal) else ⊥) (Finset.mem_univ k)
    simpa only [hm, if_true] using this

theorem exp2_scaled (x : ℝ) : Real.rpow 2 ((Real.log 2)⁻¹ * x) = Real.exp x := by
  have h : Real.log 2 ≠ 0 := (Real.log_pos (by norm_num)).ne'
  change (2 : ℝ) ^ ((Real.log 2)⁻¹ * x) = _
  rw [Real.rpow_def_of_pos (by norm_num)]
  congr 1
  field_simp

/-- The weight of one visible block: powers of two of the scores divided by log 2, each times the sum's reciprocal,
are the softmax of the scores. -/
theorem weight {ι : Type} [Fintype ι] (m : ι → Prop) [DecidablePred m] (a b : ι → ℝ)
    (hab : ∀ i, a i = (Real.log 2)⁻¹ * b i) (k : ι) (hk : m k) (A B : ι → EReal)
    (hA : ∀ i, A i = if m i then (a i : EReal) else ⊥) (hB : ∀ i, B i = if m i then (b i : EReal) else ⊥) :
    Ideal.exp2 (A k - Finset.univ.fold max ⊥ A)
        * Ideal.div 1 (∑ i, Ideal.exp2 (A i - Finset.univ.fold max ⊥ A))
      = Ideal.div (Ideal.exp (B k - Finset.univ.fold max ⊥ B)) (∑ i, Ideal.exp (B i - Finset.univ.fold max ⊥ B)) := by
  have hl : 0 < (Real.log 2)⁻¹ := inv_pos.2 (Real.log_pos (by norm_num))
  obtain ⟨j, hj, hmax⟩ := Finset.exists_max_image (Finset.univ.filter m) b ⟨k, by simp [hk]⟩
  have hj : m j := (Finset.mem_filter.1 hj).2
  have hmax : ∀ i, m i → b i ≤ b j := fun i hi => hmax i (by simp [hi])
  have eA : A = fun i => if m i then (a i : EReal) else ⊥ := funext hA
  have eB : B = fun i => if m i then (b i : EReal) else ⊥ := funext hB
  have fA : Finset.univ.fold max ⊥ A = (a j : EReal) := by
    rw [eA]; exact fold_max m a j hj fun i hi => by rw [hab, hab]; exact mul_le_mul_of_nonneg_left (hmax i hi) hl.le
  have fB : Finset.univ.fold max ⊥ B = (b j : EReal) := by
    rw [eB]; exact fold_max m b j hj hmax
  let E : ι → ℝ := fun i => if m i then Real.exp (b i - b j) else 0
  have gA : ∀ i, Ideal.exp2 (A i - (a j : EReal)) = (E i : EReal) := by
    intro i
    by_cases h : m i
    · simp only [hA, E, h, if_true]
      rw [← EReal.coe_sub, hab, hab, ← mul_sub]
      exact congrArg (fun r : ℝ => (r : EReal)) (exp2_scaled _)
    · simp only [hA, E, h, if_false]
      rw [EReal.bot_sub]; rfl
  have gB : ∀ i, Ideal.exp (B i - (b j : EReal)) = (E i : EReal) := by
    intro i
    by_cases h : m i
    · simp only [hB, E, h, if_true]
      rw [← EReal.coe_sub]; rfl
    · simp only [hB, E, h, if_false]
      rw [EReal.bot_sub]; rfl
  have hZ : (∑ i, (E i : EReal)) ≠ 0 := by
    rw [← coe_sum]
    have : (0 : ℝ) < ∑ i, E i := by
      refine Finset.sum_pos' (fun i _ => ?_) ⟨j, Finset.mem_univ _, ?_⟩
      · by_cases h : m i <;> simp [E, h, Real.exp_nonneg]
      · simp [E, hj]
    exact_mod_cast this.ne'
  simp only [fA, fB, gA, gB]
  simp only [Ideal.div, hZ, if_false, one_mul]

/-- What has an absolute value below infinity is a real. -/
theorem real_of_abs_lt {x : EReal} (h : max x (-x) < ⊤) : ∃ r : ℝ, x = (r : EReal) := by
  induction x with
  | bot => simp at h
  | top => simp at h
  | coe r => exact ⟨r, rfl⟩

/-- The score of a block: with the queries scaled by one over eight times log 2 it is one over log 2 times the score with
the queries scaled by an eighth. -/
theorem score {ι : Type} [Fintype ι] (x y : ι → EReal) (hx : ∀ i, max (x i) (-(x i)) < ⊤)
    (hy : ∀ i, max (y i) (-(y i)) < ⊤) :
    ∃ b : ℝ, ∑ i, x i * ((1 / 8 : ℝ) : EReal) * y i = (b : EReal)
      ∧ ∑ i, y i * (x i * (((8 * Real.log 2)⁻¹ : ℝ) : EReal)) = (((Real.log 2)⁻¹ * b : ℝ) : EReal) := by
  choose r hr using fun i => real_of_abs_lt (hx i)
  choose w hw using fun i => real_of_abs_lt (hy i)
  refine ⟨∑ i, r i * (1 / 8) * w i, ?_, ?_⟩
  · rw [coe_sum]; simp only [hr, hw, EReal.coe_mul]
  · rw [Finset.mul_sum, coe_sum]
    refine Finset.sum_congr rfl fun i _ => ?_
    rw [hr, hw, ← EReal.coe_mul, ← EReal.coe_mul]
    congr 1
    rw [mul_inv]; ring

end Cert.AttnMath
-- ==== Proof.CmpFinite.lean ====
module

public import proofs.«01_k».proof.Pre_finite
public import Idealize.ShloMosaic.PureOps.Ideal
public import Idealize.ShloMosaic.PureOps.Ideal.Laws
public import Idealize.ShloMosaic.Lib.Pointwise

@[expose] public section

noncomputable section

namespace Cert.CmpFinite

open Idealize.ShloMosaic Cert.Pre_finite

/-- A conjunction of bits that is one has only ones. -/
theorem all_of_fold {ι : Type} (s : Finset ι) (f : ι → BitVec 1) (a : BitVec 1) (h : s.fold IntOp.andi a f = 1#1) : ∀ i ∈ s, f i = 1#1 := by
  classical
  induction s using Finset.induction_on with
  | empty => simp
  | insert k s hk ih =>
    rw [Finset.fold_insert hk] at h
    have hb : ∀ x y : BitVec 1, IntOp.andi x y = 1#1 → x = 1#1 ∧ y = 1#1 := by decide
    obtain ⟨h1, h2⟩ := hb _ _ h
    intro i hi
    rcases Finset.mem_insert.1 hi with rfl | hi
    · exact h1
    · exact ih h2 i hi

theorem inf : (Ideal.ofBits .f32 0x7F800000#32 : EReal) = ⊤ := by
  simp [Ideal.ofBits, Ideal.ieee]

theorem bit_lt {a b : EReal} (h : FloatOps.cmpf (F := Ideal) (φ := .f32) .olt a b = 1#1) : a < b := by
  change Ideal.cmp .olt a b = 1#1 at h
  by_contra hn
  simp [Ideal.cmp, hn] at h

variable [Facts]

/-- The precondition bounds every query and every compressed key. -/
theorem of_pre (q : FVec Ideal S8x4096x512 .f32) (k : FVec Ideal S8x2x256x64 .bf16) (v : FVec Ideal S8x2x64x256 .bf16)
    (h : fn (F := Ideal) q k v = fun _ => 1#1) :
    (∀ i, max (q i : EReal) (-(q i)) < ⊤) ∧ ∀ i, max (k i : EReal) (-(k i)) < ⊤ := by
  have hb : ∀ x y : BitVec 1, IntOp.andi x y = 1#1 → x = 1#1 ∧ y = 1#1 := by decide
  obtain ⟨h1, h2⟩ := hb _ _ (congrFun h ix0)
  beta_reduce at h1 h2
  rw [Host.reduce_eq_fold] at h1 h2
  refine ⟨fun i => ?_, fun i => ?_⟩
  · have := bit_lt (all_of_fold _ _ _ h1 i (Finset.mem_filter.2 ⟨Finset.mem_univ _, funext fun a => a.elim0⟩))
    rw [← inf]
    exact this
  · have := bit_lt (all_of_fold _ _ _ h2 i (Finset.mem_filter.2 ⟨Finset.mem_univ _, funext fun a => a.elim0⟩))
    rw [← inf]
    exact this

end Cert.CmpFinite
-- ==== Proof.CmpRef.lean ====
module

public import proofs.«01_k».proof.Proof.Gen.Reference4Ideal.Read
public import Idealize.ShloMosaic.Lib.ValueIdxRank6
public import Idealize.ShloMosaic.Lib.Pointwise

@[expose] public section

noncomputable section

namespace Cert.CmpRef

open Cert.Reference4Ideal Cert.Reference4Ideal.Read Idealize.ShloMosaic

abbrev Q := (⟨S8x4096x512, .f32⟩ : BufTy).Contents (Elt Ideal)
abbrev K := (⟨S8x2x256x64, .bf16⟩ : BufTy).Contents (Elt Ideal)
abbrev W := (⟨S8x2x64x256, .bf16⟩ : BufTy).Contents (Elt Ideal)

/-- The query entry `e` of head `g, r` at token `256 T + u`. -/
abbrev qAt (x0 : Q) (b : Fin 8) (g : Fin 2) (T : Fin 16) (r : Fin 4) (u : Fin 256) (e : Fin 64) : EReal :=
  x0 (ix3 b ⟨T.val * 256 + u.val, by omega⟩ ⟨(g.val * 4 + r.val) * 64 + e.val, by omega⟩)

/-- The score of block `n`, masked. -/
def score (x0 : Q) (x1 : K) (b : Fin 8) (g : Fin 2) (T : Fin 16) (r : Fin 4) (u : Fin 256) (n : Fin 256) : EReal :=
  if 16 * n.val + 31 ≤ T.val * 256 + u.val then
    ∑ e : Fin 64, qAt x0 b g T r u e * ((1 / 8 : ℝ) : EReal) * (x1 (ix4 b g n e) : EReal) else ⊥

def top (x0 : Q) (x1 : K) (b : Fin 8) (g : Fin 2) (T : Fin 16) (r : Fin 4) (u : Fin 256) : EReal :=
  Finset.univ.fold max ⊥ (score x0 x1 b g T r u)

def prob (x0 : Q) (x1 : K) (b : Fin 8) (g : Fin 2) (T : Fin 16) (r : Fin 4) (u : Fin 256) (n : Fin 256) : EReal :=
  if 16 * n.val + 31 ≤ T.val * 256 + u.val then
    Ideal.div (Ideal.exp (score x0 x1 b g T r u n - top x0 x1 b g T r u))
      (∑ k, Ideal.exp (score x0 x1 b g T r u k - top x0 x1 b g T r u)) else 0

theorem eighth : (FloatOps.ofBits .f32 0x3E000000#32 : Ideal .f32) = ((1 / 8 : ℝ) : EReal) := by
  change Ideal.ofBits .f32 0x3E000000#32 = _
  simp [Ideal.ofBits, Ideal.ieee]
  rw [← EReal.coe_mul]
  norm_num

theorem neg_inf : (FloatOps.ofBits .f32 0xFF800000#32 : Ideal .f32) = (⊥ : EReal) := by
  change Ideal.ofBits .f32 0xFF800000#32 = _
  simp [Ideal.ofBits, Ideal.ieee]

theorem mask_word (n : Fin 256) (t : Fin 4096) :
    IntOp.cmpi .sle (IntOp.addi (IntOp.muli (BitVec.ofNat 32 n.val) 16#32) 31#32) (BitVec.ofNat 32 t.val)
      = BitVec.ofBool (decide (16 * n.val + 31 ≤ t.val)) := by
  have hn := n.isLt
  have ht := t.isLt
  simp only [IntOp.cmpi, IntOp.addi, IntOp.muli]
  congr 1
  have e : BitVec.ofNat 32 n.val * 16#32 + 31#32 = BitVec.ofNat 32 (16 * n.val + 31) := by
    apply BitVec.eq_of_toNat_eq
    simp only [BitVec.toNat_add, BitVec.toNat_mul, BitVec.toNat_ofNat]
    omega
  rw [e]
  have e1 : (BitVec.ofNat 32 (16 * n.val + 31)).toInt = ((16 * n.val + 31 : ℕ) : ℤ) := by
    rw [BitVec.toInt_ofNat']; simp only [Int.bmod]; omega
  have e2 : (BitVec.ofNat 32 t.val).toInt = (t.val : ℤ) := by
    rw [BitVec.toInt_ofNat']; simp only [Int.bmod]; omega
  simp only [BitVec.sle, e1, e2]
  exact decide_eq_decide.2 (by omega)

theorem v14 (t : Fin 4096) (n : Fin 256) :
    val_main_v14 (F := Ideal) (ix2 t n) = BitVec.ofBool (decide (16 * n.val + 31 ≤ t.val)) := by
  simp only [val_main_v14_apply, val_main_v12_apply, val_main_v13_apply, val_main_v10_apply, val_main_v11_apply,
    val_main_v9_apply, val_main_v8_apply, val_main_v7_apply, val_main_v6_apply, val_main_v5_apply, val_main_v4_apply,
    val_main_c_apply, val_main_c_0_apply]
  exact mask_word n t

theorem v16 (x0 : Q) (x1 : K) (b : Fin 8) (g : Fin 2) (T : Fin 16) (r : Fin 4) (u : Fin 256) (n : Fin 256) :
    val_main_v16 (F := Ideal) x0 x1 (ix5 b g r ⟨T.val * 256 + u.val, by omega⟩ n)
      = ∑ e : Fin 64, qAt x0 b g T r u e * ((1 / 8 : ℝ) : EReal) * (x1 (ix4 b g n e) : EReal) := by
  rw [val_main_v16_apply]
  refine Finset.sum_congr rfl fun e _ => ?_
  simp only [val_main_v3_apply, val_main_v2_apply, val_main_v1_apply, val_main_v0_apply, val_main_cst_apply,
    val_main_v15_apply]
  rw [eighth]
  have h1 : idx_main_v2 (idx_main_v3 (lidx_main_v16 (ix5 b g r ⟨T.val * 256 + u.val, by omega⟩ n) e))
      = ix3 b ⟨T.val * 256 + u.val, by omega⟩ ⟨(g.val * 4 + r.val) * 64 + e.val, by omega⟩ := by
    refine funext fun a => Fin.ext ?_
    have hb := b.isLt; have hg := g.isLt; have hr := r.isLt; have hT := T.isLt; have hu := u.isLt; have he := e.isLt
    match a with
    | ⟨0, _⟩ => change ((((b.val * 4096 + (T.val * 256 + u.val)) * 2 + g.val) * 4 + r.val) * 64 + e.val) / 2097152 = b.val; omega
    | ⟨1, _⟩ => change ((((b.val * 4096 + (T.val * 256 + u.val)) * 2 + g.val) * 4 + r.val) * 64 + e.val) / 512 % 4096 = T.val * 256 + u.val; omega
    | ⟨2, _⟩ => change ((((b.val * 4096 + (T.val * 256 + u.val)) * 2 + g.val) * 4 + r.val) * 64 + e.val) % 512 = (g.val * 4 + r.val) * 64 + e.val; omega
  have h2 : ridx_main_v16 (ix5 b g r ⟨T.val * 256 + u.val, by omega⟩ n) e = ix4 b g n e :=
    funext fun a => Fin.ext (by match a with | ⟨0, _⟩ => rfl | ⟨1, _⟩ => rfl | ⟨2, _⟩ => rfl | ⟨3, _⟩ => rfl)
  rw [h1, h2]
  rfl

theorem v17 (x0 : Q) (x1 : K) (b : Fin 8) (g : Fin 2) (T : Fin 16) (r : Fin 4) (u : Fin 256) (n : Fin 256) :
    val_main_v17 (F := Ideal) x0 x1 (ix5 b g r ⟨T.val * 256 + u.val, by omega⟩ n) = score x0 x1 b g T r u n := by
  have h : idx_main_call0_v1 (ix5 b g r ⟨T.val * 256 + u.val, by omega⟩ n) = ix2 ⟨T.val * 256 + u.val, by omega⟩ n :=
    funext fun a => Fin.ext (by match a with | ⟨0, _⟩ => rfl | ⟨1, _⟩ => rfl)
  simp only [val_main_v17_apply, val_main_call0_v1_apply, val_main_call0_v2_apply, val_main_call0_v0_apply,
    val_main_cst_1_apply]
  rw [h, v14, v16, neg_inf]
  unfold score
  by_cases hm : 16 * n.val + 31 ≤ T.val * 256 + u.val <;> simp [hm, Scalar.select]

theorem v20 (x0 : Q) (x1 : K) (b : Fin 8) (g : Fin 2) (T : Fin 16) (r : Fin 4) (u : Fin 256) :
    val_main_v20 (F := Ideal) x0 x1 (ix4 b g r ⟨T.val * 256 + u.val, by omega⟩) = top x0 x1 b g T r u := by
  rw [val_main_v20_apply, val_main_v19_apply, val_main_cst_3_apply, neg_inf]
  have h : val_main_v18 (F := Ideal) x0 x1 (ix4 b g r ⟨T.val * 256 + u.val, by omega⟩) = top x0 x1 b g T r u := by
    unfold val_main_v18 top
    have hf : S8x2x4x4096x256.Reduces [4] S8x2x4x4096 := by decide
    have hv := v17 x0 x1 b g T r u
    generalize val_main_v17 (F := Ideal) x0 x1 = f at hv ⊢
    rw [Host.reduce_eq_fold_single FloatOps.maximumf _ _ _ hf, val_main_cst_2_apply, neg_inf]
    have hl : f ∘ hf.lift (ix4 b g r ⟨T.val * 256 + u.val, by omega⟩) = score x0 x1 b g T r u := funext fun n => by
      refine Eq.trans ?_ (hv n)
      exact congrArg f (funext fun a => Fin.ext (by
        match a with | ⟨0, _⟩ => rfl | ⟨1, _⟩ => rfl | ⟨2, _⟩ => rfl | ⟨3, _⟩ => rfl | ⟨4, _⟩ => rfl))
    exact congrArg (fun h : Fin 256 → EReal => Finset.univ.fold max (⊥ : EReal) h) hl
  rw [h]
  exact max_eq_right bot_le

theorem v24 (x0 : Q) (x1 : K) (b : Fin 8) (g : Fin 2) (T : Fin 16) (r : Fin 4) (u : Fin 256) (n : Fin 256) :
    val_main_v24 (F := Ideal) x0 x1 (ix5 b g r ⟨T.val * 256 + u.val, by omega⟩ n)
      = Ideal.exp (score x0 x1 b g T r u n - top x0 x1 b g T r u) := by
  have h : idx_main_v21 (idx_main_v22 (ix5 b g r ⟨T.val * 256 + u.val, by omega⟩ n)) = ix4 b g r ⟨T.val * 256 + u.val, by omega⟩ :=
    funext fun a => Fin.ext (by match a with | ⟨0, _⟩ => rfl | ⟨1, _⟩ => rfl | ⟨2, _⟩ => rfl | ⟨3, _⟩ => rfl)
  rw [val_main_v24_apply, val_main_v23_apply, val_main_v22_apply, val_main_v21_apply, v17, h, v20]
  rfl

theorem v29 (x0 : Q) (x1 : K) (b : Fin 8) (g : Fin 2) (T : Fin 16) (r : Fin 4) (u : Fin 256) (n : Fin 256) :
    val_main_v29 (F := Ideal) x0 x1 (ix5 b g r ⟨T.val * 256 + u.val, by omega⟩ n) = prob x0 x1 b g T r u n := by
  have h : idx_main_call1_v1 (ix5 b g r ⟨T.val * 256 + u.val, by omega⟩ n) = ix2 ⟨T.val * 256 + u.val, by omega⟩ n :=
    funext fun a => Fin.ext (by match a with | ⟨0, _⟩ => rfl | ⟨1, _⟩ => rfl)
  have h' : idx_main_v26 (idx_main_v27 (ix5 b g r ⟨T.val * 256 + u.val, by omega⟩ n)) = ix4 b g r ⟨T.val * 256 + u.val, by omega⟩ :=
    funext fun a => Fin.ext (by match a with | ⟨0, _⟩ => rfl | ⟨1, _⟩ => rfl | ⟨2, _⟩ => rfl | ⟨3, _⟩ => rfl)
  have hs : val_main_v25 (F := Ideal) x0 x1 (ix4 b g r ⟨T.val * 256 + u.val, by omega⟩)
      = ∑ k, Ideal.exp (score x0 x1 b g T r u k - top x0 x1 b g T r u) := by
    rw [val_main_v25_apply, val_main_cst_4_apply]
    have z : (FloatOps.ofBits .f32 0x00000000#32 : Ideal .f32) = (0 : EReal) := Ideal.ofBits_zero_f32
    rw [z]
    refine (zero_add _).trans (Finset.sum_congr rfl fun k _ => ?_)
    rw [← v24]
    exact congrArg _ (funext fun a => Fin.ext (by
      match a with | ⟨0, _⟩ => rfl | ⟨1, _⟩ => rfl | ⟨2, _⟩ => rfl | ⟨3, _⟩ => rfl | ⟨4, _⟩ => rfl))
  simp only [val_main_v29_apply, val_main_call1_v1_apply, val_main_call1_v2_apply, val_main_call1_v0_apply,
    val_main_cst_5_apply, val_main_v28_apply, val_main_v27_apply, val_main_v26_apply]
  rw [h, h', v14, v24, hs]
  have z : (FloatOps.ofBits .f32 0x00000000#32 : Ideal .f32) = (0 : EReal) := Ideal.ofBits_zero_f32
  rw [z]
  unfold prob
  by_cases hm : 16 * n.val + 31 ≤ T.val * 256 + u.val <;> simp only [hm, Scalar.select, decide_true, decide_false] <;> rfl

/-- The reference's result at one feature of one head and token. -/
theorem read (x0 : Q) (x1 : K) (x2 : W) (b : Fin 8) (g : Fin 2) (d : Fin 64) (T : Fin 16) (r : Fin 4) (u : Fin 256) :
    val_main_v34 (F := Ideal) x0 x1 x2 (ix4 b g d ⟨T.val * 1024 + r.val * 256 + u.val, by omega⟩)
      = ∑ n : Fin 256, prob x0 x1 b g T r u n * (x2 (ix4 b g d n) : EReal) := by
  have hb := b.isLt; have hg := g.isLt; have hr := r.isLt; have hT := T.isLt; have hu := u.isLt; have hd := d.isLt
  unfold val_main_v34
  rw [shapeCast_apply _ _ _ (ValueIdx.ix6 b g d T r u) (by
    rw [Shape.rowMajor_val_six, Shape.rowMajor_val_four]
    change ((((b.val * 2 + g.val) * 64 + d.val) * 16 + T.val) * 4 + r.val) * 256 + u.val
      = ((b.val * 2 + g.val) * 64 + d.val) * 16384 + (T.val * 1024 + r.val * 256 + u.val)
    omega)]
  rw [val_main_v33_apply]
  unfold val_main_v32
  rw [shapeCast_apply _ _ _ (ix5 b g r ⟨T.val * 256 + u.val, by omega⟩ d) (by
    rw [Shape.rowMajor_val_six, Shape.rowMajor_val_five]
    change (((b.val * 2 + g.val) * 4 + r.val) * 4096 + (T.val * 256 + u.val)) * 64 + d.val
      = ((((b.val * 2 + g.val) * 4 + r.val) * 16 + T.val) * 256 + u.val) * 64 + d.val
    omega)]
  rw [val_main_v31_apply]
  refine Finset.sum_congr rfl fun n _ => ?_
  rw [← v29, val_main_v30_apply]
  have h1 : lidx_main_v31 (ix5 b g r ⟨T.val * 256 + u.val, by omega⟩ d) n = ix5 b g r ⟨T.val * 256 + u.val, by omega⟩ n :=
    funext fun a => Fin.ext (by match a with | ⟨0, _⟩ => rfl | ⟨1, _⟩ => rfl | ⟨2, _⟩ => rfl | ⟨3, _⟩ => rfl | ⟨4, _⟩ => rfl)
  have h2 : ridx_main_v31 (ix5 b g r ⟨T.val * 256 + u.val, by omega⟩ d) n = ix4 b g d n :=
    funext fun a => Fin.ext (by match a with | ⟨0, _⟩ => rfl | ⟨1, _⟩ => rfl | ⟨2, _⟩ => rfl | ⟨3, _⟩ => rfl)
  rw [h1, h2]
  rfl

end Cert.CmpRef
-- ==== Proof.CmpSub.lean ====
module

public import proofs.«01_k».proof.Proof.Gen.Kernel4Ideal.Skeleton.P01
public import Idealize.ShloMosaic.Lib.Pointwise

@[expose] public section

noncomputable section

namespace Cert.CmpSub

open Cert.Kernel4Ideal Cert.Kernel4Ideal.Gen Idealize.ShloMosaic

variable [Facts]

/-- The floor of `(x - 31) / 16`, written with the division that rounds towards zero. -/
def lastVisible (x : BitVec 32) : BitVec 32 :=
  Scalar.select
    (IntOp.andi
      (IntOp.cmpi .ne
        (IntOp.subi (BitVec.setWidth 32 (IntOp.cmpi .sgt (IntOp.subi x 31#32) 0#32))
          (BitVec.setWidth 32 (IntOp.cmpi .slt (IntOp.subi x 31#32) 0#32)))
        (Scalar.subi (Scalar.extui (Scalar.cmpi .sgt 16#32 0#32)) (Scalar.extui (Scalar.cmpi .slt 16#32 0#32))))
      (IntOp.cmpi .ne (IntOp.remsi .vector (IntOp.subi x 31#32) 16#32) 0#32))
    (IntOp.subi (IntOp.divsi .vector (IntOp.subi x 31#32) 16#32) 1#32)
    (IntOp.divsi .vector (IntOp.subi x 31#32) 16#32)

theorem lastVisible_word : ∀ x : Fin 4096,
    (lastVisible (BitVec.ofNat 32 x.val)).toInt = ((x.val : ℤ) - 31) / 16 := by
  decide +kernel

theorem rem_word : ∀ c : Fin 1024,
    IntOp.remsi .vector (BitVec.ofNat 32 c.val) (Scalar.select (Scalar.cmpi .eq 256#32 0#32) 1#32 256#32) = BitVec.ofNat 32 (c.val % 256) := by
  decide +kernel

theorem pay7 (c : Fin 1024) : k0_pay7 (ix2 0 c) = BitVec.ofNat 32 (c.val % 256) := by
  unfold k0_pay7
  pointwise
  exact rem_word c

theorem sign_word : ∀ x : Fin 256, IntOp.cmpi .slt (BitVec.ofNat 32 x.val) 0#32 = 0#1 := by
  decide +kernel

theorem pay8 (c : Fin 1024) : k0_pay8 (ix2 0 c) = 0#1 := by
  unfold k0_pay8
  pointwise
  rw [pay7, sign_word ⟨c.val % 256, by omega⟩]
  generalize IntOp.cmpi .ne (BitVec.ofNat 32 (c.val % 256)) 0#32 = y
  revert y
  decide

theorem mask_at (T : Fin 16) (n : Fin 256) (c : Fin 1024) :
    k0_pay10 (BitVec.ofNat 32 (T.val * 256)) k0_pay7 k0_pay8 k0_pay9 (ix2 n c)
      = BitVec.ofBool (decide (16 * n.val + 31 ≤ T.val * 256 + c.val % 256)) := by
  unfold k0_pay10
  pointwise
  rw [pay8, pay7]
  have e : IntOp.addi (BitVec.ofNat 32 (T.val * 256)) (BitVec.ofNat 32 (c.val % 256)) = BitVec.ofNat 32 (T.val * 256 + c.val % 256) :=
    (BitVec.ofNat_add _ _).symm
  change IntOp.cmpi .sle _ (lastVisible (IntOp.addi _ (BitVec.ofNat 32 (c.val % 256)))) = _
  rw [e]
  have hx := lastVisible_word ⟨T.val * 256 + c.val % 256, by omega⟩
  have hn : (BitVec.ofNat 32 n.val).toInt = (n.val : ℤ) := by
    rw [BitVec.toInt_ofNat']; simp only [Int.bmod]; omega
  simp only [IntOp.cmpi]
  congr 1
  simp only [BitVec.sle, hn, hx]
  exact decide_eq_decide.2 (by omega)

theorem scale : (Named.named κ "scale" (φ := .f32) 0x3E38AA3B#32 : Ideal .f32) = (((8 * Real.log 2)⁻¹ : ℝ) : EReal) := rfl
theorem masked : (Named.named κ "mask" (φ := .f32) 0xF149F2CA#32 : Ideal .f32) = (⊥ : EReal) := rfl

theorem pay5 (v6 : Vec Ideal S1x256x256 .f32) (e : Fin 64) (r : Fin 4) (u : Fin 256) :
    k0_pay5 v6 (ix2 e ⟨r.val * 256 + u.val, by omega⟩) = v6 (ix3 0 u ⟨r.val * 64 + e.val, by omega⟩) * (((8 * Real.log 2)⁻¹ : ℝ) : EReal) := by
  unfold k0_pay5
  pointwise
  rw [scale]
  have hu := u.isLt
  match r with
  | ⟨0, _⟩ =>
    rw [dif_pos (by dsimp only; omega)]
    congr 2
    exact congrArg₂ (ix3 0) (Fin.ext (by dsimp only; omega)) (Fin.ext (by dsimp only; omega))
  | ⟨1, _⟩ =>
    rw [dif_neg (by dsimp only; omega), dif_pos (by dsimp only; omega)]
    congr 2
    exact congrArg₂ (ix3 0) (Fin.ext (by dsimp only; omega)) (Fin.ext (by dsimp only))
  | ⟨2, _⟩ =>
    rw [dif_neg (by dsimp only; omega), dif_neg (by dsimp only; omega), dif_pos (by dsimp only; omega)]
    congr 2
    exact congrArg₂ (ix3 0) (Fin.ext (by dsimp only; omega)) (Fin.ext (by dsimp only))
  | ⟨3, _⟩ =>
    rw [dif_neg (by dsimp only; omega), dif_neg (by dsimp only; omega), dif_neg (by dsimp only; omega)]
    congr 2
    exact congrArg₂ (ix3 0) (Fin.ext (by dsimp only; omega)) (Fin.ext (by dsimp only))

abbrev Visible (T : Fin 16) (u n : Fin 256) : Prop := 16 * n.val + 31 ≤ T.val * 256 + u.val

/-- The scaled score of block `n`, masked, for row `u` of the tile. -/
def score (v0 : Vec Ideal S1x1x256x64 .bf16) (v6 : Vec Ideal S1x256x256 .f32) (T : Fin 16) (r : Fin 4) (u n : Fin 256) : EReal :=
  if Visible T u n then
    ∑ e : Fin 64, (v0 (ix4 0 0 n e) : EReal) * ((v6 (ix3 0 u ⟨r.val * 64 + e.val, by omega⟩) : EReal) * (((8 * Real.log 2)⁻¹ : ℝ) : EReal))
  else ⊥

def top (v0 : Vec Ideal S1x1x256x64 .bf16) (v6 : Vec Ideal S1x256x256 .f32) (T : Fin 16) (r : Fin 4) (u : Fin 256) : EReal :=
  Finset.univ.fold max ⊥ (score v0 v6 T r u)

theorem pay4 (v0 : Vec Ideal S1x1x256x64 .bf16) (n : Fin 256) (e : Fin 64) : k0_pay4 v0 (ix2 n e) = v0 (ix4 0 0 n e) := by
  unfold k0_pay4
  pointwise

theorem neg_inf : (Ideal.ofBits .f32 0xFF800000#32 : EReal) = ⊥ := by
  simp [Ideal.ofBits, Ideal.ieee]

theorem mask_of (T : Fin 16) (r : Fin 4) (u n : Fin 256) :
    k0_pay10 (BitVec.ofNat 32 (T.val * 256)) k0_pay7 k0_pay8 k0_pay9 (ix2 n ⟨r.val * 256 + u.val, by omega⟩)
      = BitVec.ofBool (decide (Visible T u n)) := by
  have h : (r.val * 256 + u.val) % 256 = u.val := by omega
  rw [mask_at]
  simp only [h]

theorem scored (v0 : Vec Ideal S1x1x256x64 .bf16) (v6 : Vec Ideal S1x256x256 .f32) (T : Fin 16) (r : Fin 4) (u n : Fin 256) :
    Scalar.select (k0_pay10 (BitVec.ofNat 32 (T.val * 256)) k0_pay7 k0_pay8 k0_pay9 (ix2 n ⟨r.val * 256 + u.val, by omega⟩))
      (∑ x, (k0_pay4 v0 (ix2 n x) : EReal) * k0_pay5 v6 (ix2 x ⟨r.val * 256 + u.val, by omega⟩)) (Named.named κ "mask" (φ := .f32) 0xF149F2CA#32 : Ideal .f32)
      = score v0 v6 T r u n := by
  rw [mask_of, masked]
  simp only [pay4, pay5]
  unfold score
  by_cases hm : Visible T u n <;> simp only [hm, Scalar.select, decide_true, decide_false] <;> rfl

theorem pay11 (v0 : Vec Ideal S1x1x256x64 .bf16) (v6 : Vec Ideal S1x256x256 .f32) (T : Fin 16) (r : Fin 4) (u n : Fin 256) :
    k0_pay11 (k0_pay4 v0) (BitVec.ofNat 32 (T.val * 256)) (k0_pay5 v6) k0_pay7 k0_pay8 k0_pay9 (ix2 n ⟨r.val * 256 + u.val, by omega⟩)
      = Ideal.exp2 (score v0 v6 T r u n - top v0 v6 T r u)
        * Ideal.div 1 (∑ k, Ideal.exp2 (score v0 v6 T r u k - top v0 v6 T r u)) := by
  unfold k0_pay11
  pointwise
  simp only [scored, neg_inf]
  rfl

/-- What a tile's rows hold: the visible blocks' values, weighted. -/
theorem pay13 (v0 : Vec Ideal S1x1x256x64 .bf16) (v6 : Vec Ideal S1x256x256 .f32) (v85 : Vec Ideal S1x1x128x256 .bf16)
    (T : Fin 16) (r : Fin 4) (u : Fin 256) (d : Fin 64) :
    k0_pay13 (k0_pay10 (BitVec.ofNat 32 (T.val * 256)) k0_pay7 k0_pay8 k0_pay9)
      (k0_pay11 (k0_pay4 v0) (BitVec.ofNat 32 (T.val * 256)) (k0_pay5 v6) k0_pay7 k0_pay8 k0_pay9) v85
      (ix4 0 0 d ⟨r.val * 256 + u.val, by omega⟩)
      = ∑ n : Fin 256, (v85 (ix4 0 0 ⟨d.val, by omega⟩ n) : EReal)
        * (if Visible T u n then Ideal.exp2 (score v0 v6 T r u n - top v0 v6 T r u)
            * Ideal.div 1 (∑ k, Ideal.exp2 (score v0 v6 T r u k - top v0 v6 T r u)) else 0) := by
  unfold k0_pay13 k0_pay12
  pointwise
  simp only [pay11, mask_of]
  refine Finset.sum_congr rfl fun n _ => ?_
  by_cases hm : Visible T u n
  · simp only [hm, Scalar.select, decide_true, if_true]; rfl
  · simp only [hm, Scalar.select, decide_false, if_false, mul_zero]; rfl

end Cert.CmpSub
-- ==== Proof.CmpTile.lean ====
module

public import proofs.«01_k».proof.Proof.Gen.Kernel4Ideal.Value
public import proofs.«01_k».proof.Proof.CmpSub
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Cmp

open Cert.Kernel4Ideal Cert.Kernel4Ideal.Gen

variable (m : (ℓ : Loc nD τ sig) → Buf (Elt Ideal) ℓ)

/-- Where each window's block lies at grid point `t`: batch entry, group of heads, four tiles of tokens. -/
theorem idx : ∀ t : Fin cfg0.N,
    win0_0.index t = ![t.val / 8, t.val % 4, t.val / 4 % 2] ∧ win0_1.index t = ![t.val / 8, t.val / 4 % 2, 0, 0]
    ∧ win0_2.index t = ![t.val / 8, t.val / 4 % 2, 0, 0] ∧ win0_4.index t = ![t.val / 8, t.val / 4 % 2, 0, t.val % 4] :=
  (by decide +kernel : ∀ t : Fin grid0.N, _)

/-- The values and the blocks' overlaps, one above the other, as the host code puts them. -/
def rows (x : FVec Ideal S8x2x64x256 .bf16) : FVec Ideal S8x2x128x256 .bf16 :=
  concatenate S8x2x128x256 2
    [⟨S8x2x64x256, x⟩,
     ⟨S8x2x64x256, broadcastInDim S8x2x64x256 ![2, 3] bcast_S64x256_S8x2x64x256_2_3 (fun i => FloatOps.ofBits .bf16 (lit0 (S64x256.rowMajor i)))⟩]
    concatenates_S8x2x64x256_S8x2x64x256_S8x2x128x256_d2

theorem rows_eq (c : Dev nD) : V m c main_v1 = rows (m ((c : Thread nD τ).loc main_arg2)) := by
  show StableHlo.after _ _ _ = _
  simp only [List.flatten_cons, List.flatten_nil, List.append_nil, List.cons_append, List.nil_append, hostOps0]
  after_results_simp
  rfl

theorem rows_value (x : FVec Ideal S8x2x64x256 .bf16) (b : Fin 8) (g : Fin 2) (d : Fin 64) (n : Fin 256) :
    rows x (ix4 b g ⟨d.val, by omega⟩ n) = x (ix4 b g d n) := by
  unfold rows
  pointwise

abbrev bat (t : Fin cfg0.N) : Fin 8 := ⟨t.val / 8, by have : t.val < 64 := t.isLt; omega⟩
abbrev grp (t : Fin cfg0.N) : Fin 2 := ⟨t.val / 4 % 2, by omega⟩
abbrev tileNo (t : Fin cfg0.N) (s : Fin 4) : Fin 16 := ⟨t.val % 4 * 4 + s.val, by omega⟩

theorem iblk_k (c : Dev nD) (t : Fin cfg0.N) (n : Fin 256) (e : Fin 64) :
    iblk m c 1 t (ix4 0 0 n e) = m ((c : Thread nD τ).loc main_arg1) (ix4 (bat t) (grp t) n e) := by
  blk_point [iblk, V, idx t]

theorem iblk_v (c : Dev nD) (t : Fin cfg0.N) (d : Fin 64) (n : Fin 256) :
    iblk m c 2 t (ix4 0 0 ⟨d.val, by omega⟩ n) = m ((c : Thread nD τ).loc main_arg2) (ix4 (bat t) (grp t) d n) := by
  have h := rows_value (m ((c : Thread nD τ).loc main_arg2)) (bat t) (grp t) d n
  rw [← rows_eq] at h
  rw [← h]
  blk_point [iblk, idx t]

/-- The queries of one of the four tiles. -/
abbrev queries (c : Dev nD) (t : Fin cfg0.N) (s : Fin 4) : Vec Ideal S1x256x256 .f32 :=
  View.ld (iblk m c 0 t) (Rect.unit ![0, 256 * s.val, 0] ![1, 256, 256] (by
    have := s.isLt
    intro a
    match a with
    | ⟨0, _⟩ => exact Nat.le_refl 1
    | ⟨1, _⟩ => change 256 * s.val + 256 ≤ 1024; omega
    | ⟨2, _⟩ => exact Nat.le_refl 256))

theorem iblk_q (c : Dev nD) (t : Fin cfg0.N) (s : Fin 4) (u k : Fin 256) :
    queries m c t s (ix3 0 u k)
      = m ((c : Thread nD τ).loc main_arg0) (ix3 (bat t) ⟨(tileNo t s).val * 256 + u.val, by have := (tileNo t s).isLt; omega⟩
          ⟨(grp t).val * 256 + k.val, by have := (grp t).isLt; omega⟩) := by
  unfold queries
  blk_point [iblk, V, idx t, View.ld]
  · rw [Rect.idx_unit_val]
    change _ + (256 * s.val + u.val) = _
    omega
  · rw [Rect.idx_unit_val]
    change _ + (0 + k.val) = _
    omega

/-- The first token of a tile, as the kernel computes it from the grid's coordinate. -/
abbrev word (t : Fin cfg0.N) (s : BitVec 32) : BitVec 32 :=
  Scalar.muli (Scalar.addi (Scalar.muli (BitVec.ofNat 32 (grid0.coords t 2).val) 4#32) s) 256#32

theorem word_eq : ∀ (t : Fin cfg0.N) (s : Fin 4), word t (BitVec.ofNat 32 s.val) = BitVec.ofNat 32 ((t.val % 4 * 4 + s.val) * 256) :=
  (by decide +kernel : ∀ (t : Fin grid0.N) (s : Fin 4), _)

/-- One tile's result from its first token, its keys, queries and values. -/
def tile (w : BitVec 32) (v0 : Vec Ideal S1x1x256x64 .bf16) (v6 : Vec Ideal S1x256x256 .f32) (v85 : Vec Ideal S1x1x128x256 .bf16) :
    FVec Ideal S1x1x64x1024 .f32 :=
  k0_pay13 (k0_pay10 w k0_pay7 k0_pay8 k0_pay9) (k0_pay11 (k0_pay4 v0) w (k0_pay5 v6) k0_pay7 k0_pay8 k0_pay9) v85

/-- What a grid point leaves: its four tiles side by side. -/
theorem left (c : Dev nD) (t : Fin cfg0.N) : (outsAt0 m c t).2 = View.canon
    [⟨Rect.unit ![0, 0, 0, 3072] ![1, 1, 64, 1024] inb_S1x1x64x4096_S1x1x64x1024_0_0_0_3072, tile (word t 3#32) (iblk m c 1 t) (queries m c t 3) (iblk m c 2 t)⟩,
     ⟨Rect.unit ![0, 0, 0, 2048] ![1, 1, 64, 1024] inb_S1x1x64x4096_S1x1x64x1024_0_0_0_2048, tile (word t 2#32) (iblk m c 1 t) (queries m c t 2) (iblk m c 2 t)⟩,
     ⟨Rect.unit ![0, 0, 0, 1024] ![1, 1, 64, 1024] inb_S1x1x64x4096_S1x1x64x1024_0_0_0_1024, tile (word t 1#32) (iblk m c 1 t) (queries m c t 1) (iblk m c 2 t)⟩,
     ⟨Rect.unit ![0, 0, 0, 0] ![1, 1, 64, 1024] inb_S1x1x64x4096_S1x1x64x1024_0_0_0_0, tile (word t 0#32) (iblk m c 1 t) (queries m c t 0) (iblk m c 2 t)⟩] := by
  unfold outsAt0
  dsimp only
  frame_out
  rfl

end Cert.Cmp
-- ==== Proof.CmpValue.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.AttnMath
public import proofs.«01_k».proof.Proof.CmpFinite
public import proofs.«01_k».proof.Proof.CmpRef
public import proofs.«01_k».proof.Proof.CmpTile

@[expose] public section

set_option maxRecDepth 16384

noncomputable section

open Idealize.ShloMosaic Idealize.ShloMosaic.TcCoe Idealize.SL.Sem
open Idealize.ShloMosaic.Pipeline (Dat)

namespace Cert.Cmp

open Cert.Kernel4Ideal Cert.Kernel4Ideal.Gen

variable (m : (ℓ : Loc nD τ sig) → Buf (Elt Ideal) ℓ)

/-- The reference's result as a function of the kernel's own arguments: what the result array is shown to hold. -/
abbrev attended (c : Dev nD) : Buf (Elt Ideal) ((c : Thread nD τ).loc main_v2_1) :=
  Cert.Reference4Ideal.Read.val_main_v34 (F := Ideal) (m ((c : Thread nD τ).loc main_arg0)) (m ((c : Thread nD τ).loc main_arg1))
    (m ((c : Thread nD τ).loc main_arg2))

/-- An array without infinities. -/
def Bound {s : Shape} (f : s.Idx → EReal) : Prop := ∀ i, max (f i) (-(f i)) < ⊤

/-- The queries and the compressed keys are finite. -/
def Bounded (c : Dev nD) : Prop :=
  Bound (s := S8x4096x512) (m ((c : Thread nD τ).loc main_arg0)) ∧ Bound (s := S8x2x256x64) (m ((c : Thread nD τ).loc main_arg1))

/-- One entry of one tile: the kernel's weights in base two are the reference's in base e. -/
theorem tile_entry (c : Dev nD) (hb : Bounded m c) (t : Fin cfg0.N) (s : Fin 4) (d : Fin 64) (r : Fin 4) (u : Fin 256) :
    tile (word t (BitVec.ofNat 32 s.val)) (iblk m c 1 t) (queries m c t s) (iblk m c 2 t) (ix4 0 0 d ⟨r.val * 256 + u.val, by omega⟩)
      = attended m c (ix4 (bat t) (grp t) d ⟨(tileNo t s).val * 1024 + r.val * 256 + u.val, by have := (tileNo t s).isLt; omega⟩) := by
  rw [word_eq]
  unfold tile
  refine (Cert.CmpSub.pay13 (iblk m c 1 t) (queries m c t s) (iblk m c 2 t) (tileNo t s) r u d).trans ?_
  refine Eq.trans ?_ (Cert.CmpRef.read _ _ _ (bat t) (grp t) d (tileNo t s) r u).symm
  refine Finset.sum_congr rfl fun n _ => ?_
  rw [iblk_v, mul_comm]
  congr 1
  unfold Cert.CmpRef.prob
  by_cases hv : Cert.CmpSub.Visible (tileNo t s) u n
  · rw [if_pos hv, if_pos hv]
    -- each visible score is a real; the kernel's is the reference's divided by the logarithm of two
    have hs : ∀ k : Fin 256, ∃ b : ℝ,
        ∑ e : Fin 64, Cert.CmpRef.qAt (m ((c : Thread nD τ).loc main_arg0)) (bat t) (grp t) (tileNo t s) r u e * ((1 / 8 : ℝ) : EReal)
            * (m ((c : Thread nD τ).loc main_arg1) (ix4 (bat t) (grp t) k e) : EReal) = (b : EReal)
        ∧ ∑ e : Fin 64, HMul.hMul (α := EReal) (β := EReal) (γ := EReal) (iblk m c 1 t (ix4 0 0 k e))
            ((queries m c t s (ix3 0 u ⟨r.val * 64 + e.val, by omega⟩) : EReal) * (((8 * Real.log 2)⁻¹ : ℝ) : EReal))
          = (((Real.log 2)⁻¹ * b : ℝ) : EReal) := fun k => by
      obtain ⟨b, h1, h2⟩ := Cert.AttnMath.score
        (fun e : Fin 64 => Cert.CmpRef.qAt (m ((c : Thread nD τ).loc main_arg0)) (bat t) (grp t) (tileNo t s) r u e)
        (fun e : Fin 64 => (m ((c : Thread nD τ).loc main_arg1) (ix4 (bat t) (grp t) k e) : EReal))
        (fun e => hb.1 _) (fun e => hb.2 _)
      refine ⟨b, h1, Eq.trans (Finset.sum_congr rfl fun e _ => ?_) h2⟩
      rw [iblk_k, iblk_q]
      have hq : (⟨(grp t).val * 256 + (r.val * 64 + e.val), by have := (grp t).isLt; omega⟩ : Fin 512)
          = ⟨((grp t).val * 4 + r.val) * 64 + e.val, by have := (grp t).isLt; omega⟩ := Fin.ext (by dsimp only; omega)
      rw [hq]
    choose b hb1 hb2 using hs
    refine Cert.AttnMath.weight (fun k => Cert.CmpSub.Visible (tileNo t s) u k) (fun k => (Real.log 2)⁻¹ * b k) b (fun _ => rfl) n hv
      _ _ (fun k => ?_) (fun k => ?_)
    · unfold Cert.CmpSub.score
      rw [hb2]
    · unfold Cert.CmpRef.score
      rw [hb1]
  · rw [if_neg hv, if_neg hv]

/-- The place of a block's entry in the result array. -/
theorem place (f : S8x2x64x16384.Idx → EReal) (t : Fin cfg0.N) (y : S1x1x64x4096.Idx) (d : Fin 64) (k : Fin 16384) (hd : d.val = (y 2).val)
    (hk : k.val = t.val % 4 * 4096 + (y 3).val) :
    f (((View.whole main_v2_1).slice (win0_4.rect t)).emb y) = f (ix4 (bat t) (grp t) d k) := by
  have h0 : (y 0).val < 1 := (y 0).isLt
  have h1 : (y 1).val < 1 := (y 1).isLt
  blk_point [idx t]
  all_goals omega

/-- What a grid point leaves is its block of an array that agrees with its four tiles. -/
theorem assemble (c : Dev nD) (t : Fin cfg0.N) (A : Vec Ideal S8x2x64x16384 .f32)
   (tile_entry : ∀ (s : Fin 4) (d : Fin 64) (r : Fin 4) (u : Fin 256),
    tile (word t (BitVec.ofNat 32 s.val)) (iblk m c 1 t) (queries m c t s) (iblk m c 2 t) (ix4 0 0 d ⟨r.val * 256 + u.val, by omega⟩)
      = A (ix4 (bat t) (grp t) d ⟨(tileNo t s).val * 1024 + r.val * 256 + u.val, by have := (tileNo t s).isLt; omega⟩)) (y : S1x1x64x4096.Idx) :
   (outsAt0 m c t).2 y = A (((View.whole main_v2_1).slice (win0_4.rect t)).emb y) := by
  rw [left]
  refine View.canon_apply_of_pieces (fun y => A (((View.whole main_v2_1).slice (win0_4.rect t)).emb y)) _ ?_ y ?_
  · -- an entry of a tile, placed
    have piece : ∀ (s : Fin 4) (x : S1x1x64x1024.Idx) (y : S1x1x64x4096.Idx), (y 2).val = (x 2).val → (y 3).val = 1024 * s.val + (x 3).val →
        tile (word t (BitVec.ofNat 32 s.val)) (iblk m c 1 t) (queries m c t s) (iblk m c 2 t) x
          = A (((View.whole main_v2_1).slice (win0_4.rect t)).emb y) := fun s x y h2 h3 => by
      have hx2 : (x 2).val < 64 := (x 2).isLt
      have hx3 : (x 3).val < 1024 := (x 3).isLt
      have e : x = ix4 0 0 ⟨(x 2).val, hx2⟩ ⟨(⟨(x 3).val / 256, by omega⟩ : Fin 4).val * 256 + (⟨(x 3).val % 256, by omega⟩ : Fin 256).val, by dsimp only; omega⟩ :=
        funext fun a => Fin.ext (by
          match a with
          | ⟨0, _⟩ => have := (x 0).isLt; change (x 0).val = 0; change (x 0).val < 1 at this; omega
          | ⟨1, _⟩ => have := (x 1).isLt; change (x 1).val = 0; change (x 1).val < 1 at this; omega
          | ⟨2, _⟩ => rfl
          | ⟨3, _⟩ => change (x 3).val = (x 3).val / 256 * 256 + (x 3).val % 256; omega)
      rw [e, tile_entry]
      refine (place A t y _ _ ?_ ?_).symm
      · dsimp only; omega
      · dsimp only; omega
    have col : ∀ (o : ℕ) (i : ∀ a, ![0, 0, 0, o] a + ![1, 1, 64, 1024] a ≤ S1x1x64x4096.size a) (x : S1x1x64x1024.Idx),
        ((Rect.unit (s := S1x1x64x4096) ![0, 0, 0, o] ![1, 1, 64, 1024] i).emb x 2).val = (x 2).val
        ∧ ((Rect.unit (s := S1x1x64x4096) ![0, 0, 0, o] ![1, 1, 64, 1024] i).emb x 3).val = o + (x 3).val := fun o i x =>
      ⟨(ValueKit.rect_emb_unit_val _ _ _ _ _).trans (Nat.zero_add _), ValueKit.rect_emb_unit_val _ _ _ _ _⟩
    intro p hp x
    simp only [List.mem_cons, List.not_mem_nil, or_false] at hp
    rcases hp with rfl | rfl | rfl | rfl
    · exact piece 3 x _ (col 3072 inb_S1x1x64x4096_S1x1x64x1024_0_0_0_3072 x).1 (col 3072 inb_S1x1x64x4096_S1x1x64x1024_0_0_0_3072 x).2
    · exact piece 2 x _ (col 2048 inb_S1x1x64x4096_S1x1x64x1024_0_0_0_2048 x).1 (col 2048 inb_S1x1x64x4096_S1x1x64x1024_0_0_0_2048 x).2
    · exact piece 1 x _ (col 1024 inb_S1x1x64x4096_S1x1x64x1024_0_0_0_1024 x).1 (col 1024 inb_S1x1x64x4096_S1x1x64x1024_0_0_0_1024 x).2
    · exact piece 0 x _ (col 0 inb_S1x1x64x4096_S1x1x64x1024_0_0_0_0 x).1 (col 0 inb_S1x1x64x4096_S1x1x64x1024_0_0_0_0 x).2
  · have h0 : (y 0).val < 1 := (y 0).isLt
    have h1 : (y 1).val < 1 := (y 1).isLt
    have h2 : (y 2).val < 64 := (y 2).isLt
    have h3 : (y 3).val < 4096 := (y 3).isLt
    have on : ∀ (o : ℕ) (i : ∀ a, ![0, 0, 0, o] a + ![1, 1, 64, 1024] a ≤ S1x1x64x4096.size a), o ≤ (y 3).val → (y 3).val < o + 1024 →
        y ∈ (Rect.unit (s := S1x1x64x4096) ![0, 0, 0, o] ![1, 1, 64, 1024] i).set := fun o i ha hb => by
      rw [Rect.mem_set_unit]
      intro a
      match a with
      | ⟨0, _⟩ => exact ⟨Nat.zero_le _, by change (y 0).val < 0 + 1; omega⟩
      | ⟨1, _⟩ => exact ⟨Nat.zero_le _, by change (y 1).val < 0 + 1; omega⟩
      | ⟨2, _⟩ => exact ⟨Nat.zero_le _, by change (y 2).val < 0 + 64; omega⟩
      | ⟨3, _⟩ => exact ⟨ha, hb⟩
    by_cases c1 : (y 3).val < 1024
    · exact ⟨_, .tail _ (.tail _ (.tail _ (.head _))), on 0 inb_S1x1x64x4096_S1x1x64x1024_0_0_0_0 (by omega) (by omega)⟩
    by_cases c2 : (y 3).val < 2048
    · exact ⟨_, .tail _ (.tail _ (.head _)), on 1024 inb_S1x1x64x4096_S1x1x64x1024_0_0_0_1024 (by omega) (by omega)⟩
    by_cases c3 : (y 3).val < 3072
    · exact ⟨_, .tail _ (.head _), on 2048 inb_S1x1x64x4096_S1x1x64x1024_0_0_0_2048 (by omega) (by omega)⟩
    · exact ⟨_, .head _, on 3072 inb_S1x1x64x4096_S1x1x64x1024_0_0_0_3072 (by omega) (by omega)⟩

/-- The result array after the run is the reference's result of the arguments. -/
theorem final (c : Dev nD) (hb : Bounded m c) : (dats m 0 c).arrAt 4 cfg0.N = attended m c := by
  refine (dats m 0 c).arrAt_eq_of_covers 4 _ (by decide +kernel) fun t hf y => ?_
  blk_simp
  rw [after0_4]
  exact assemble m c t (attended m c) (tile_entry m c hb t) y

end Cert.Cmp

namespace Cert.Proof.CmpClaim

/-- The attention to the compressed blocks computes the function its reference defines, for finite queries and keys. -/
theorem algebraic [hPre : Cert.Pre_finite.Facts] : Cert.algebraic_Kernel4Ideal_Reference4Ideal_pre_finite := by
  intro m ρ m' ρ' hpre hagree
  refine ⟨fun c => Cert.Cmp.attended m c, ?_, ?_⟩
  · exact (θ_run Cert.Kernel4Ideal.defs _ _).mono
      (fun _ h c => ⟨(h c).2.1.trans (Cert.Cmp.final m c (Cert.CmpFinite.of_pre _ _ _ (hpre c))), (h c).2.2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    rw [Cert.Reference4Ideal.Read.val_main_v34_eq]
    unfold Cert.Cmp.attended
    obtain ⟨h0, h1, h2⟩ := hagree c
    rw [h0, h1, h2]

end Cert.Proof.CmpClaim

end
-- ==== Proof.FfnRead.lean ====
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Ffn

open Cert.KernelIdeal Cert.KernelIdeal.Gen

/-- A tile's 512 rows seen `8 - o` rows earlier: the rows that fall before the tile come from the 8 rows `P` kept above it. -/
def earlier (o : ℕ) (ho : o ≤ 8) (H : Vec Ideal S1x512x256 .f32) (P : Vec Ideal S1x8x256 .f32) : Vec Ideal S1x512x256 .f32 := fun j =>
  if h : 8 ≤ o + (j 1).val then H (ix3 0 ⟨o + (j 1).val - 8, by have h1 : (j 1).val < 512 := (j 1).isLt; omega⟩ (j 2))
  else P (ix3 0 ⟨o + (j 1).val, by omega⟩ (j 2))

/-- A chunk's window read after its 8 kept rows and its tile were stored, the stores before them unread. -/
theorem readCov_earlier {sig : RefSig} {κ : Kind} {sp : Space} (v : View sig κ sp S11x520x256 .f32) (c o : ℕ)
    (i1 : ∀ a, ![c, 8, 0] a + ![1, 512, 256] a ≤ S11x520x256.size a) (i0 : ∀ a, ![c, 0, 0] a + ![1, 8, 256] a ≤ S11x520x256.size a)
    (i2 : ∀ a, ![c, o, 0] a + ![1, 512, 256] a ≤ S11x520x256.size a) (ho : o ≤ 8)
    (H : (Rect.unit (s := S11x520x256) ![c, 8, 0] ![1, 512, 256] i1).shape.Idx → Elt Ideal .f32)
    (P : (Rect.unit (s := S11x520x256) ![c, 0, 0] ![1, 8, 256] i0).shape.Idx → Elt Ideal .f32) (L : List (View.Piece (Elt Ideal) S11x520x256 .f32)) :
    v.readCov (⟨Rect.unit ![c, 8, 0] ![1, 512, 256] i1, H⟩ :: ⟨Rect.unit ![c, 0, 0] ![1, 8, 256] i0, P⟩ :: L)
      (Rect.unit ![c, o, 0] ![1, 512, 256] i2).toLoadRect = earlier o ho H P := by
  rw [View.readCov_eq_canon']
  funext (j : S1x512x256.Idx)
  have h0 : (j 0).val < 1 := (j 0).isLt
  have h1 : (j 1).val < 512 := (j 1).isLt
  by_cases h : 8 ≤ o + (j 1).val
  · have e : (Rect.unit (s := S11x520x256) ![c, o, 0] ![1, 512, 256] i2).idx j
        = (Rect.unit (s := S11x520x256) ![c, 8, 0] ![1, 512, 256] i1).emb (ix3 0 ⟨o + (j 1).val - 8, by omega⟩ (j 2)) := by
      funext a; apply Fin.ext
      rw [Rect.idx_unit_val, ValueKit.rect_emb_unit_val]
      match a with
      | ⟨0, _⟩ => show c + (j 0).val = c + 0; omega
      | ⟨1, _⟩ => show o + (j 1).val = 8 + (o + (j 1).val - 8); omega
      | ⟨2, _⟩ => rfl
    show View.canon _ ((Rect.unit (s := S11x520x256) ![c, o, 0] ![1, 512, 256] i2).idx j) = _
    rw [e, View.canon_cons_emb]
    unfold earlier; rw [dif_pos h]
  · have e : (Rect.unit (s := S11x520x256) ![c, o, 0] ![1, 512, 256] i2).idx j
        = (Rect.unit (s := S11x520x256) ![c, 0, 0] ![1, 8, 256] i0).emb (ix3 0 (⟨o + (j 1).val, by omega⟩ : Fin 8) (j 2)) := by
      funext a; apply Fin.ext
      rw [Rect.idx_unit_val, ValueKit.rect_emb_unit_val]
      match a with
      | ⟨0, _⟩ => show c + (j 0).val = c + 0; omega
      | ⟨1, _⟩ => show o + (j 1).val = 0 + (o + (j 1).val); omega
      | ⟨2, _⟩ => rfl
    show View.canon _ ((Rect.unit (s := S11x520x256) ![c, o, 0] ![1, 512, 256] i2).idx j) = _
    rw [e, View.canon_cons_of_not_mem, View.canon_cons_emb]
    · unfold earlier; rw [dif_neg h]
    · rw [Rect.mem_set_unit]
      intro hm
      have := (hm 1).1
      rw [ValueKit.rect_emb_unit_val] at this
      have : 8 ≤ 0 + (o + (j 1).val) := this
      omega

/-- The eight rows kept for chunk `n`. -/
def kept (X : Vec Ideal S11x8x256 .f32) (n : ℕ) (hn : n < 11) : Vec Ideal S1x8x256 .f32 := fun j => X (ix3 ⟨n, hn⟩ (j 1) (j 2))

/-- The 8 kept rows of chunk `c` read after every chunk's were reset to one value. -/
theorem readCov_reset {sig : RefSig} {κ : Kind} {sp : Space} (v : View sig κ sp S11x520x256 .f32) (c : ℕ)
    (i1 : ∀ a, ![0, 512, 0] a + ![11, 8, 256] a ≤ S11x520x256.size a) (i2 : ∀ a, ![c, 512, 0] a + ![1, 8, 256] a ≤ S11x520x256.size a)
    (hc : c < 11) (L : List (View.Piece (Elt Ideal) S11x520x256 .f32))
    (Z : (Rect.unit (s := S11x520x256) ![0, 512, 0] ![11, 8, 256] i1).shape.Idx → Elt Ideal .f32) :
    v.readCov (⟨Rect.unit ![0, 512, 0] ![11, 8, 256] i1, Z⟩ :: L) (Rect.unit ![c, 512, 0] ![1, 8, 256] i2).toLoadRect
      = kept Z c hc := by
  rw [View.readCov_eq_canon']
  funext (j : S1x8x256.Idx)
  have e : (Rect.unit (s := S11x520x256) ![c, 512, 0] ![1, 8, 256] i2).idx j
      = (Rect.unit (s := S11x520x256) ![0, 512, 0] ![11, 8, 256] i1).emb (ix3 ⟨c, hc⟩ (j 1) (j 2)) := by
    funext a; apply Fin.ext
    rw [Rect.idx_unit_val, ValueKit.rect_emb_unit_val]
    have h0 : (j 0).val < 1 := (j 0).isLt
    match a with
    | ⟨0, _⟩ => show c + (j 0).val = 0 + c; omega
    | ⟨1, _⟩ => rfl
    | ⟨2, _⟩ => rfl
  show View.canon _ ((Rect.unit (s := S11x520x256) ![c, 512, 0] ![1, 8, 256] i2).idx j) = _
  rw [e, View.canon_cons_emb]
  rfl

/-- Four chunks of activations side by side. -/
def four (a b c d : Vec Ideal S512x256 .bf16) : Vec Ideal S512x1024 .bf16 := fun j =>
  if h : (j 1).val < 256 then a (ix2 (j 0) ⟨(j 1).val, h⟩)
  else if h : (j 1).val < 512 then b (ix2 (j 0) ⟨(j 1).val - 256, by omega⟩)
  else if h : (j 1).val < 768 then c (ix2 (j 0) ⟨(j 1).val - 512, by omega⟩)
  else d (ix2 (j 0) ⟨(j 1).val - 768, by have h1 : (j 1).val < 1024 := (j 1).isLt; omega⟩)

/-- Three chunks of activations side by side. -/
def three (a b c : Vec Ideal S512x256 .bf16) : Vec Ideal S512x768 .bf16 := fun j =>
  if h : (j 1).val < 256 then a (ix2 (j 0) ⟨(j 1).val, h⟩)
  else if h : (j 1).val < 512 then b (ix2 (j 0) ⟨(j 1).val - 256, by omega⟩)
  else c (ix2 (j 0) ⟨(j 1).val - 512, by have h1 : (j 1).val < 768 := (j 1).isLt; omega⟩)

/-- What an index of a loaded rectangle reads where the last store's rectangle holds it. -/
theorem canon_hit {S : Shape} {e : EltTy} (r : Rect S) (w : r.shape.Idx → Elt Ideal e) (L : List (View.Piece (Elt Ideal) S e)) (y : S.Idx)
    (x : r.shape.Idx) (h : ∀ a, (y a : ℕ) = r.emb x a) : View.canon (⟨r, w⟩ :: L) y = w x := by
  rw [show y = r.emb x from funext fun a => Fin.ext (h a), View.canon_cons_emb]

/-- What an index reads where the last store starts past its column. -/
theorem canon_left {e : EltTy} (o w : ℕ) (i : ∀ a, ![0, o] a + ![512, w] a ≤ S512x2816.size a)
    (p : (Rect.unit (s := S512x2816) ![0, o] ![512, w] i).shape.Idx → Elt Ideal e) (L : List (View.Piece (Elt Ideal) S512x2816 e)) (y : S512x2816.Idx)
    (h : (y 1).val < o) : View.canon (⟨Rect.unit ![0, o] ![512, w] i, p⟩ :: L) y = View.canon L y := by
  refine View.canon_cons_of_not_mem _ _ ?_
  rw [Rect.mem_set_unit]
  intro hm
  have : o ≤ (y 1).val := (hm 1).1
  omega

theorem readCov_four {sig : RefSig} {κ : Kind} {sp : Space} (v : View sig κ sp S512x2816 .bf16) (o0 o1 o2 o3 : ℕ)
    (i3 : ∀ a, ![0, o3] a + ![512, 256] a ≤ S512x2816.size a) (i2 : ∀ a, ![0, o2] a + ![512, 256] a ≤ S512x2816.size a)
    (i1 : ∀ a, ![0, o1] a + ![512, 256] a ≤ S512x2816.size a) (i0 : ∀ a, ![0, o0] a + ![512, 256] a ≤ S512x2816.size a)
    (i : ∀ a, ![0, o0] a + ![512, 1024] a ≤ S512x2816.size a)
    (d : (Rect.unit (s := S512x2816) ![0, o3] ![512, 256] i3).shape.Idx → Elt Ideal .bf16)
    (c : (Rect.unit (s := S512x2816) ![0, o2] ![512, 256] i2).shape.Idx → Elt Ideal .bf16)
    (b : (Rect.unit (s := S512x2816) ![0, o1] ![512, 256] i1).shape.Idx → Elt Ideal .bf16)
    (a : (Rect.unit (s := S512x2816) ![0, o0] ![512, 256] i0).shape.Idx → Elt Ideal .bf16)
    (L : List (View.Piece (Elt Ideal) S512x2816 .bf16)) (h1 : o1 = o0 + 256) (h2 : o2 = o0 + 512) (h3 : o3 = o0 + 768) :
    v.readCov (⟨Rect.unit ![0, o3] ![512, 256] i3, d⟩ :: ⟨Rect.unit ![0, o2] ![512, 256] i2, c⟩ :: ⟨Rect.unit ![0, o1] ![512, 256] i1, b⟩
        :: ⟨Rect.unit ![0, o0] ![512, 256] i0, a⟩ :: L) (Rect.unit ![0, o0] ![512, 1024] i).toLoadRect = four a b c d := by
  subst h1 h2 h3
  rw [View.readCov_eq_canon']
  funext (j : S512x1024.Idx)
  have hj : (j 1).val < 1024 := (j 1).isLt
  show View.canon _ ((Rect.unit (s := S512x2816) ![0, o0] ![512, 1024] i).idx j) = _
  have e0 : (((Rect.unit (s := S512x2816) ![0, o0] ![512, 1024] i).idx j) 0 : ℕ) = (j 0).val := by rw [Rect.idx_unit_val]; show 0 + _ = _; omega
  have e1 : (((Rect.unit (s := S512x2816) ![0, o0] ![512, 1024] i).idx j) 1 : ℕ) = o0 + (j 1).val := by rw [Rect.idx_unit_val]; rfl
  generalize (Rect.unit (s := S512x2816) ![0, o0] ![512, 1024] i).idx j = y at e0 e1
  have e1' : (y 1).val = o0 + (j 1).val := e1
  unfold four
  split
  · rename_i h
    rw [canon_left _ _ _ _ _ _ (by omega), canon_left _ _ _ _ _ _ (by omega), canon_left _ _ _ _ _ _ (by omega)]
    refine canon_hit _ _ _ _ _ fun k => ?_
    rw [ValueKit.rect_emb_unit_val]
    match k with
    | ⟨0, _⟩ => exact e0.trans (Nat.zero_add _).symm
    | ⟨1, _⟩ => exact e1
  · split
    · rename_i h' h
      rw [canon_left _ _ _ _ _ _ (by omega), canon_left _ _ _ _ _ _ (by omega)]
      refine canon_hit _ _ _ _ _ fun k => ?_
      rw [ValueKit.rect_emb_unit_val]
      match k with
      | ⟨0, _⟩ => exact e0.trans (Nat.zero_add _).symm
      | ⟨1, _⟩ => show (y 1).val = o0 + 256 + ((j 1).val - 256); omega
    · split
      · rename_i h'' h' h
        rw [canon_left _ _ _ _ _ _ (by omega)]
        refine canon_hit _ _ _ _ _ fun k => ?_
        rw [ValueKit.rect_emb_unit_val]
        match k with
        | ⟨0, _⟩ => exact e0.trans (Nat.zero_add _).symm
        | ⟨1, _⟩ => show (y 1).val = o0 + 512 + ((j 1).val - 512); omega
      · rename_i h'' h' h
        refine canon_hit _ _ _ _ _ fun k => ?_
        rw [ValueKit.rect_emb_unit_val]
        match k with
        | ⟨0, _⟩ => exact e0.trans (Nat.zero_add _).symm
        | ⟨1, _⟩ => show (y 1).val = o0 + 768 + ((j 1).val - 768); omega

theorem readCov_three {sig : RefSig} {κ : Kind} {sp : Space} (v : View sig κ sp S512x2816 .bf16) (o0 o1 o2 : ℕ)
    (i2 : ∀ a, ![0, o2] a + ![512, 256] a ≤ S512x2816.size a)
    (i1 : ∀ a, ![0, o1] a + ![512, 256] a ≤ S512x2816.size a) (i0 : ∀ a, ![0, o0] a + ![512, 256] a ≤ S512x2816.size a)
    (i : ∀ a, ![0, o0] a + ![512, 768] a ≤ S512x2816.size a)
    (c : (Rect.unit (s := S512x2816) ![0, o2] ![512, 256] i2).shape.Idx → Elt Ideal .bf16)
    (b : (Rect.unit (s := S512x2816) ![0, o1] ![512, 256] i1).shape.Idx → Elt Ideal .bf16)
    (a : (Rect.unit (s := S512x2816) ![0, o0] ![512, 256] i0).shape.Idx → Elt Ideal .bf16)
    (L : List (View.Piece (Elt Ideal) S512x2816 .bf16)) (h1 : o1 = o0 + 256) (h2 : o2 = o0 + 512) :
    v.readCov (⟨Rect.unit ![0, o2] ![512, 256] i2, c⟩ :: ⟨Rect.unit ![0, o1] ![512, 256] i1, b⟩
        :: ⟨Rect.unit ![0, o0] ![512, 256] i0, a⟩ :: L) (Rect.unit ![0, o0] ![512, 768] i).toLoadRect = three a b c := by
  subst h1 h2
  rw [View.readCov_eq_canon']
  funext (j : S512x768.Idx)
  have hj : (j 1).val < 768 := (j 1).isLt
  show View.canon _ ((Rect.unit (s := S512x2816) ![0, o0] ![512, 768] i).idx j) = _
  have e0 : (((Rect.unit (s := S512x2816) ![0, o0] ![512, 768] i).idx j) 0 : ℕ) = (j 0).val := by rw [Rect.idx_unit_val]; show 0 + _ = _; omega
  have e1 : (((Rect.unit (s := S512x2816) ![0, o0] ![512, 768] i).idx j) 1 : ℕ) = o0 + (j 1).val := by rw [Rect.idx_unit_val]; rfl
  generalize (Rect.unit (s := S512x2816) ![0, o0] ![512, 768] i).idx j = y at e0 e1
  have e1' : (y 1).val = o0 + (j 1).val := e1
  unfold three
  split
  · rename_i h
    rw [canon_left _ _ _ _ _ _ (by omega), canon_left _ _ _ _ _ _ (by omega)]
    refine canon_hit _ _ _ _ _ fun k => ?_
    rw [ValueKit.rect_emb_unit_val]
    match k with
    | ⟨0, _⟩ => exact e0.trans (Nat.zero_add _).symm
    | ⟨1, _⟩ => exact e1
  · split
    · rename_i h' h
      rw [canon_left _ _ _ _ _ _ (by omega)]
      refine canon_hit _ _ _ _ _ fun k => ?_
      rw [ValueKit.rect_emb_unit_val]
      match k with
      | ⟨0, _⟩ => exact e0.trans (Nat.zero_add _).symm
      | ⟨1, _⟩ => show (y 1).val = o0 + 256 + ((j 1).val - 256); omega
    · rename_i h' h
      refine canon_hit _ _ _ _ _ fun k => ?_
      rw [ValueKit.rect_emb_unit_val]
      match k with
      | ⟨0, _⟩ => exact e0.trans (Nat.zero_add _).symm
      | ⟨1, _⟩ => show (y 1).val = o0 + 512 + ((j 1).val - 512); omega

end Cert.Ffn

end
-- ==== Proof.FfnChunk.lean ====
module

public import proofs.«01_k».proof.Proof.FfnRead

@[expose] public section

set_option maxRecDepth 16384

noncomputable section

open Idealize.ShloMosaic Idealize.ShloMosaic.TcCoe Idealize.SL.Sem

namespace Cert.Ffn

open Cert.KernelIdeal Cert.KernelIdeal.Gen

variable (x0 : Vec Ideal S1x512x1024 .f32) (x2 : Vec Ideal S1x1024 .f32) (Wa Wb : Vec Ideal S1024x256 .bf16)
  (Ca Cb : Vec Ideal S3x256 .f32) (Ba Bb : Vec Ideal S1x256 .f32) (Pa Pb : Vec Ideal S1x8x256 .f32)

/-- One chunk of 256 hidden columns as the kernel computes it: the tile's hidden values of the two halves, each filtered over the
row and the two before it (the rows above the tile from `Pa`, `Pb`), the first through the gate function, their product. -/
def act : Vec Ideal S512x256 .bf16 :=
  k0_pay17 (k0_pay7 x0 x2 Wb) (k0_pay12 (k0_pay6 x0 x2 Wa) Ca Ba (earlier 7 (by decide) (k0_pay11 (k0_pay6 x0 x2 Wa)) (k0_pay10 Pa)) (earlier 6 (by decide) (k0_pay11 (k0_pay6 x0 x2 Wa)) (k0_pay10 Pa))) Cb (k0_pay13 Bb) (earlier 7 (by decide) (k0_pay16 (k0_pay7 x0 x2 Wb)) (k0_pay15 (k0_pay14 Pb))) (earlier 6 (by decide) (k0_pay16 (k0_pay7 x0 x2 Wb)) (k0_pay15 (k0_pay14 Pb)))

/-- Chunk 0 runs the same computation. -/
theorem chunk0 : k0_pay17 (k0_pay7 x0 x2 Wb) (k0_pay12 (k0_pay6 x0 x2 Wa) Ca Ba (earlier 7 (by decide) (k0_pay11 (k0_pay6 x0 x2 Wa)) (k0_pay10 Pa)) (earlier 6 (by decide) (k0_pay11 (k0_pay6 x0 x2 Wa)) (k0_pay10 Pa))) Cb (k0_pay13 Bb) (earlier 7 (by decide) (k0_pay16 (k0_pay7 x0 x2 Wb)) (k0_pay15 (k0_pay14 Pb))) (earlier 6 (by decide) (k0_pay16 (k0_pay7 x0 x2 Wb)) (k0_pay15 (k0_pay14 Pb)))
    = act x0 x2 Wa Wb Ca Cb Ba Bb Pa Pb := by
  rfl

/-- Chunk 1 runs the same computation. -/
theorem chunk1 : k0_pay29 (k0_pay24 (k0_pay22 (k0_pay8 x0 x2 Wa) Ca (earlier 7 (by decide) (k0_pay21 (k0_pay8 x0 x2 Wa)) (k0_pay20 Pa)) (earlier 6 (by decide) (k0_pay21 (k0_pay8 x0 x2 Wa)) (k0_pay20 Pa))) (k0_pay23 Ba)) (k0_pay27 (k0_pay9 x0 x2 Wb) Cb Bb (earlier 7 (by decide) (k0_pay26 (k0_pay9 x0 x2 Wb)) (k0_pay25 Pb)) (earlier 6 (by decide) (k0_pay26 (k0_pay9 x0 x2 Wb)) (k0_pay25 Pb))) (k0_pay28 (k0_pay22 (k0_pay8 x0 x2 Wa) Ca (earlier 7 (by decide) (k0_pay21 (k0_pay8 x0 x2 Wa)) (k0_pay20 Pa)) (earlier 6 (by decide) (k0_pay21 (k0_pay8 x0 x2 Wa)) (k0_pay20 Pa))) (k0_pay23 Ba))
    = act x0 x2 Wa Wb Ca Cb Ba Bb Pa Pb := by
  unfold act
  unfold_payloads
  rfl

/-- Chunk 2 runs the same computation. -/
theorem chunk2 : k0_pay42 (k0_pay19 (k0_pay3 x0 x2) Wb) (k0_pay36 (k0_pay18 (k0_pay3 x0 x2) Wa) Ca (k0_pay32 Ba) (k0_pay35 (earlier 7 (by decide) (k0_pay34 (k0_pay18 (k0_pay3 x0 x2) Wa)) (k0_pay33 Pa))) (earlier 6 (by decide) (k0_pay34 (k0_pay18 (k0_pay3 x0 x2) Wa)) (k0_pay33 Pa))) (k0_pay37 Bb) (k0_pay40 Cb (earlier 7 (by decide) (k0_pay39 (k0_pay19 (k0_pay3 x0 x2) Wb)) (k0_pay38 Pb)) (earlier 6 (by decide) (k0_pay39 (k0_pay19 (k0_pay3 x0 x2) Wb)) (k0_pay38 Pb))) (k0_pay41 Cb)
    = act x0 x2 Wa Wb Ca Cb Ba Bb Pa Pb := by
  unfold act
  unfold_payloads
  rfl

/-- Chunk 3 runs the same computation. -/
theorem chunk3 : k0_pay52 (k0_pay31 (k0_pay3 x0 x2) Wb) (k0_pay48 (k0_pay30 (k0_pay3 x0 x2) Wa) Ca (k0_pay45 Ba) (earlier 7 (by decide) (k0_pay47 (k0_pay30 (k0_pay3 x0 x2) Wa)) (k0_pay46 Pa)) (earlier 6 (by decide) (k0_pay47 (k0_pay30 (k0_pay3 x0 x2) Wa)) (k0_pay46 Pa))) Cb (k0_pay49 Bb) (earlier 7 (by decide) (k0_pay51 (k0_pay31 (k0_pay3 x0 x2) Wb)) (k0_pay50 Pb)) (earlier 6 (by decide) (k0_pay51 (k0_pay31 (k0_pay3 x0 x2) Wb)) (k0_pay50 Pb))
    = act x0 x2 Wa Wb Ca Cb Ba Bb Pa Pb := by
  unfold act
  unfold_payloads
  rfl

/-- Chunk 4 runs the same computation. -/
theorem chunk4 : k0_pay63 (k0_pay58 (k0_pay43 (k0_pay3 x0 x2) Wa) Ca Ba (earlier 7 (by decide) (k0_pay57 (k0_pay43 (k0_pay3 x0 x2) Wa)) (k0_pay56 Pa)) (earlier 6 (by decide) (k0_pay57 (k0_pay43 (k0_pay3 x0 x2) Wa)) (k0_pay56 Pa))) (k0_pay61 (k0_pay44 (k0_pay3 x0 x2) Wb) Cb Bb (earlier 7 (by decide) (k0_pay60 (k0_pay44 (k0_pay3 x0 x2) Wb)) (k0_pay59 Pb)) (earlier 6 (by decide) (k0_pay60 (k0_pay44 (k0_pay3 x0 x2) Wb)) (k0_pay59 Pb))) (k0_pay62 (k0_pay58 (k0_pay43 (k0_pay3 x0 x2) Wa) Ca Ba (earlier 7 (by decide) (k0_pay57 (k0_pay43 (k0_pay3 x0 x2) Wa)) (k0_pay56 Pa)) (earlier 6 (by decide) (k0_pay57 (k0_pay43 (k0_pay3 x0 x2) Wa)) (k0_pay56 Pa))))
    = act x0 x2 Wa Wb Ca Cb Ba Bb Pa Pb := by
  unfold act
  unfold_payloads
  rfl

/-- Chunk 5 runs the same computation. -/
theorem chunk5 : k0_pay76 (k0_pay71 (k0_pay54 (k0_pay3 x0 x2) Wa) Ca (k0_pay66 Ba) (k0_pay69 (earlier 7 (by decide) (k0_pay68 (k0_pay54 (k0_pay3 x0 x2) Wa)) (k0_pay67 Pa))) (k0_pay70 Ca (earlier 6 (by decide) (k0_pay68 (k0_pay54 (k0_pay3 x0 x2) Wa)) (k0_pay67 Pa)))) (k0_pay74 (k0_pay55 (k0_pay3 x0 x2) Wb) Cb Bb (earlier 7 (by decide) (k0_pay73 (k0_pay55 (k0_pay3 x0 x2) Wb)) (k0_pay72 Pb)) (earlier 6 (by decide) (k0_pay73 (k0_pay55 (k0_pay3 x0 x2) Wb)) (k0_pay72 Pb))) (k0_pay75 (k0_pay54 (k0_pay3 x0 x2) Wa) Ca (k0_pay66 Ba) (k0_pay69 (earlier 7 (by decide) (k0_pay68 (k0_pay54 (k0_pay3 x0 x2) Wa)) (k0_pay67 Pa))) (k0_pay70 Ca (earlier 6 (by decide) (k0_pay68 (k0_pay54 (k0_pay3 x0 x2) Wa)) (k0_pay67 Pa))))
    = act x0 x2 Wa Wb Ca Cb Ba Bb Pa Pb := by
  unfold act
  unfold_payloads
  rfl

/-- Chunk 6 runs the same computation. -/
theorem chunk6 : k0_pay87 (k0_pay65 (k0_pay3 x0 x2) Wb) (k0_pay82 (k0_pay64 (k0_pay3 x0 x2) Wa) Ca (k0_pay79 Ba) (earlier 7 (by decide) (k0_pay81 (k0_pay64 (k0_pay3 x0 x2) Wa)) (k0_pay80 Pa)) (earlier 6 (by decide) (k0_pay81 (k0_pay64 (k0_pay3 x0 x2) Wa)) (k0_pay80 Pa))) Cb (k0_pay83 Bb) (k0_pay86 (earlier 7 (by decide) (k0_pay85 (k0_pay65 (k0_pay3 x0 x2) Wb)) (k0_pay84 Pb))) (earlier 6 (by decide) (k0_pay85 (k0_pay65 (k0_pay3 x0 x2) Wb)) (k0_pay84 Pb))
    = act x0 x2 Wa Wb Ca Cb Ba Bb Pa Pb := by
  unfold act
  unfold_payloads
  rfl

/-- Chunk 7 runs the same computation. -/
theorem chunk7 : k0_pay97 (k0_pay78 (k0_pay3 x0 x2) Wb) (k0_pay93 (k0_pay77 (k0_pay3 x0 x2) Wa) Ca (k0_pay90 Ba) (earlier 7 (by decide) (k0_pay92 (k0_pay77 (k0_pay3 x0 x2) Wa)) (k0_pay91 Pa)) (earlier 6 (by decide) (k0_pay92 (k0_pay77 (k0_pay3 x0 x2) Wa)) (k0_pay91 Pa))) Cb (k0_pay94 Bb) (earlier 7 (by decide) (k0_pay96 (k0_pay78 (k0_pay3 x0 x2) Wb)) (k0_pay95 Pb)) (earlier 6 (by decide) (k0_pay96 (k0_pay78 (k0_pay3 x0 x2) Wb)) (k0_pay95 Pb))
    = act x0 x2 Wa Wb Ca Cb Ba Bb Pa Pb := by
  unfold act
  unfold_payloads
  rfl

/-- Chunk 8 runs the same computation. -/
theorem chunk8 : k0_pay111 (k0_pay106 (k0_pay88 (k0_pay3 x0 x2) Wa) (k0_pay101 Ba) (k0_pay104 Ca (earlier 7 (by decide) (k0_pay103 (k0_pay88 (k0_pay3 x0 x2) Wa)) (k0_pay102 Pa)) (earlier 6 (by decide) (k0_pay103 (k0_pay88 (k0_pay3 x0 x2) Wa)) (k0_pay102 Pa))) (k0_pay105 Ca)) (k0_pay109 (k0_pay89 (k0_pay3 x0 x2) Wb) Cb Bb (earlier 7 (by decide) (k0_pay108 (k0_pay89 (k0_pay3 x0 x2) Wb)) (k0_pay107 Pb)) (earlier 6 (by decide) (k0_pay108 (k0_pay89 (k0_pay3 x0 x2) Wb)) (k0_pay107 Pb))) (k0_pay110 (k0_pay88 (k0_pay3 x0 x2) Wa) (k0_pay101 Ba) (k0_pay104 Ca (earlier 7 (by decide) (k0_pay103 (k0_pay88 (k0_pay3 x0 x2) Wa)) (k0_pay102 Pa)) (earlier 6 (by decide) (k0_pay103 (k0_pay88 (k0_pay3 x0 x2) Wa)) (k0_pay102 Pa))) (k0_pay105 Ca))
    = act x0 x2 Wa Wb Ca Cb Ba Bb Pa Pb := by
  unfold act
  unfold_payloads
  rfl

/-- Chunk 9 runs the same computation. -/
theorem chunk9 : k0_pay124 (k0_pay100 (k0_pay3 x0 x2) Wb) (k0_pay117 (k0_pay99 (k0_pay3 x0 x2) Wa) Ca (k0_pay114 Ba) (earlier 7 (by decide) (k0_pay116 (k0_pay99 (k0_pay3 x0 x2) Wa)) (k0_pay115 Pa)) (earlier 6 (by decide) (k0_pay116 (k0_pay99 (k0_pay3 x0 x2) Wa)) (k0_pay115 Pa))) Cb (k0_pay118 Bb) (k0_pay121 (earlier 7 (by decide) (k0_pay120 (k0_pay100 (k0_pay3 x0 x2) Wb)) (k0_pay119 Pb))) (k0_pay122 Cb (earlier 6 (by decide) (k0_pay120 (k0_pay100 (k0_pay3 x0 x2) Wb)) (k0_pay119 Pb))) (k0_pay123 Cb)
    = act x0 x2 Wa Wb Ca Cb Ba Bb Pa Pb := by
  unfold act
  unfold_payloads
  rfl

/-- Chunk 10 runs the same computation. -/
theorem chunk10 : k0_pay135 (k0_pay113 (k0_pay3 x0 x2) Wb) (k0_pay128 (k0_pay112 (k0_pay3 x0 x2) Wa) Ca (k0_pay125 Ba) (earlier 7 (by decide) (k0_pay127 (k0_pay112 (k0_pay3 x0 x2) Wa)) (k0_pay126 Pa)) (earlier 6 (by decide) (k0_pay127 (k0_pay112 (k0_pay3 x0 x2) Wa)) (k0_pay126 Pa))) Cb (k0_pay129 Bb) (k0_pay132 (earlier 7 (by decide) (k0_pay131 (k0_pay113 (k0_pay3 x0 x2) Wb)) (k0_pay130 Pb))) (k0_pay133 (earlier 6 (by decide) (k0_pay131 (k0_pay113 (k0_pay3 x0 x2) Wb)) (k0_pay130 Pb))) (k0_pay134 Cb)
    = act x0 x2 Wa Wb Ca Cb Ba Bb Pa Pb := by
  unfold act
  unfold_payloads
  rfl

end Cert.Ffn

end
-- ==== Proof.FfnPoint.lean ====
module

public import proofs.«01_k».proof.Proof.FfnChunk

@[expose] public section

set_option maxRecDepth 16384

noncomputable section

open Idealize.ShloMosaic Idealize.ShloMosaic.TcCoe Idealize.SL.Sem
open Idealize.ShloMosaic.Pipeline (Dat)

namespace Cert.Ffn

open Cert.KernelIdeal Cert.KernelIdeal.Gen

variable (m : (ℓ : Loc nD τ sig) → Buf (Elt Ideal) ℓ)

/-- 256 columns of a weight array, from column `o` on. -/
def cols {e : EltTy} (R : ℕ) (X : Vec Ideal ⟨2, ![R, 5632]⟩ e) (o : ℕ) (ho : o + 256 ≤ 5632) : Vec Ideal ⟨2, ![R, 256]⟩ e := fun j =>
  X (ix2 (j 0) ⟨o + (j 1).val, by have h : (j 1).val < 256 := (j 1).isLt; omega⟩)

theorem ld_cols {e : EltTy} (R : ℕ) (X : Vec Ideal ⟨2, ![R, 5632]⟩ e) (o : ℕ)
    (i : ∀ a, ![0, o] a + ![R, 256] a ≤ (⟨2, ![R, 5632]⟩ : Shape).size a) (ho : o + 256 ≤ 5632) :
    View.ld X (Rect.unit (s := ⟨2, ![R, 5632]⟩) ![0, o] ![R, 256] i) = cols R X o ho := by
  funext (j : Shape.Idx ⟨2, ![R, 256]⟩)
  show X ((Rect.unit (s := ⟨2, ![R, 5632]⟩) ![0, o] ![R, 256] i).idx j) = _
  unfold cols
  congr 1
  funext a; apply Fin.ext
  rw [Rect.idx_unit_val]
  match a with
  | ⟨0, _⟩ => exact Nat.zero_add _
  | ⟨1, _⟩ => rfl

/-- `r` rows of the down projection, from row `o` on. -/
def rows {e : EltTy} (r : ℕ) (X : Vec Ideal S2816x1024 e) (o : ℕ) (ho : o + r ≤ 2816) : Vec Ideal ⟨2, ![r, 1024]⟩ e := fun j =>
  X (ix2 ⟨o + (j 0).val, by have h : (j 0).val < r := (j 0).isLt; omega⟩ (j 1))

theorem ld_rows {e : EltTy} (r : ℕ) (X : Vec Ideal S2816x1024 e) (o : ℕ)
    (i : ∀ a, ![o, 0] a + ![r, 1024] a ≤ S2816x1024.size a) (ho : o + r ≤ 2816) :
    View.ld X (Rect.unit (s := S2816x1024) ![o, 0] ![r, 1024] i) = rows r X o ho := by
  funext (j : Shape.Idx ⟨2, ![r, 1024]⟩)
  show X ((Rect.unit (s := S2816x1024) ![o, 0] ![r, 1024] i).idx j) = _
  unfold rows
  congr 1
  funext a; apply Fin.ext
  rw [Rect.idx_unit_val]
  match a with
  | ⟨0, _⟩ => rfl
  | ⟨1, _⟩ => exact Nat.zero_add _

/-- The last eight rows of every chunk's window. -/
def last8 (X : Vec Ideal S11x520x256 .f32) : Vec Ideal S11x8x256 .f32 := fun j =>
  X (ix3 (j 0) ⟨512 + (j 1).val, by have h : (j 1).val < 8 := (j 1).isLt; omega⟩ (j 2))

theorem ld_last8 (X : Vec Ideal S11x520x256 .f32) (n : ℕ) (i : ∀ a, ![n, 512, 0] a + ![1, 8, 256] a ≤ S11x520x256.size a) (hn : n < 11) :
    View.ld X (Rect.unit (s := S11x520x256) ![n, 512, 0] ![1, 8, 256] i) = kept (last8 X) n hn := by
  funext (j : S1x8x256.Idx)
  show X ((Rect.unit (s := S11x520x256) ![n, 512, 0] ![1, 8, 256] i).idx j) = _
  unfold kept last8
  congr 1
  funext a; apply Fin.ext
  rw [Rect.idx_unit_val]
  have h0 : (j 0).val < 1 := (j 0).isLt
  match a with
  | ⟨0, _⟩ => show n + (j 0).val = n; omega
  | ⟨1, _⟩ => rfl
  | ⟨2, _⟩ => exact Nat.zero_add _

/-- Chunk `n` of the activations at grid point `t`, the rows above the tile taken from `pa` and `pb`. -/
def chunkAct (c : Dev nD) (t : Fin cfg0.N) (pa pb : Vec Ideal S11x8x256 .f32) (n : ℕ) (hn : n < 11) : Vec Ideal S512x256 .bf16 :=
  act (iblk m c 0 t) (iblk m c 2 t)
    (cols 1024 (iblk m c 3 t) (256 * n) (by omega)) (cols 1024 (iblk m c 3 t) (2816 + 256 * n) (by omega))
    (cols 3 (iblk m c 4 t) (256 * n) (by omega)) (cols 3 (iblk m c 4 t) (2816 + 256 * n) (by omega))
    (cols 1 (iblk m c 5 t) (256 * n) (by omega)) (cols 1 (iblk m c 5 t) (2816 + 256 * n) (by omega))
    (kept pa n hn) (kept pb n hn)

/-- The down projection summed over the first eight chunks. -/
def down (c : Dev nD) (t : Fin cfg0.N) (A : (n : ℕ) → n < 11 → Vec Ideal S512x256 .bf16) : Vec Ideal S512x1024 .f32 :=
  k0_pay98 (k0_pay53 (four (A 0 (by decide)) (A 1 (by decide)) (A 2 (by decide)) (A 3 (by decide))) (rows 1024 (iblk m c 6 t) 0 (by decide)))
    (four (A 4 (by decide)) (A 5 (by decide)) (A 6 (by decide)) (A 7 (by decide))) (rows 1024 (iblk m c 6 t) 1024 (by decide))

/-- What a grid point writes, from the activations of its eleven chunks. -/
def result (c : Dev nD) (t : Fin cfg0.N) (A : (n : ℕ) → n < 11 → Vec Ideal S512x256 .bf16) : Vec Ideal S1x512x1024 .f32 :=
  let D := down m c t A
  let E := three (A 8 (by decide)) (A 9 (by decide)) (A 10 (by decide))
  let W := rows 768 (iblk m c 6 t) 2048 (by decide)
  k0_pay1
    (k0_pay139 (k0_pay136 (k0_pay2 (iblk m c 0 t)) D E W) (k0_pay137 (iblk m c 7 t)) (k0_pay138 (k0_pay2 (iblk m c 0 t)) D E W)
      (FloatOps.ofBits FTy.f32 897988541#32) (iblk m c 8 t) (iblk m c 1 t) (iblk m c 9 t))
    (k0_pay140 (iblk m c 10 t))
    (k0_pay141 (k0_pay136 (k0_pay2 (iblk m c 0 t)) D E W) (k0_pay137 (iblk m c 7 t)) (k0_pay138 (k0_pay2 (iblk m c 0 t)) D E W)
      (FloatOps.ofBits FTy.f32 897988541#32) (iblk m c 8 t) (iblk m c 1 t) (iblk m c 9 t))

/-- The first tile of a sequence: the kept rows are reset. -/
theorem out_A (c : Dev nD) (t : Fin cfg0.N) (h0 : t.val % 8 = 0) :
    (outsAt0 m c t.val t.isLt).1 = result m c t (chunkAct m c t (k0_pay4 (F := Ideal)) (k0_pay5 (F := Ideal))) := by
  rw [outsAt0_A m c t h0]
  dsimp only
  frame_open
  simp (disch := decide) only [↓ readCov_earlier, ↓ readCov_reset, ↓ readCov_four, ↓ readCov_three, ↓ View.readCov_skip, ↓ View.readCov_cons_toLoadRect, ↓ View.readCov_fill]
  frame_out
  simp (disch := decide) only [ld_cols 1024, ld_cols 3, ld_cols 1, ld_rows 1024, ld_rows 768, ld_last8]
  simp only [chunk0, chunk1, chunk2, chunk3, chunk4, chunk5, chunk6, chunk7, chunk8, chunk9, chunk10]
  unfold result down chunkAct
  rfl

/-- A later tile: the kept rows are the last ones of the tile before. -/
theorem out_B (c : Dev nD) (t : Fin cfg0.N) (h0 : ¬t.val % 8 = 0) :
    (outsAt0 m c t.val t.isLt).1 = result m c t (chunkAct m c t (last8 (outsAt0 m c (t.val - 1) (Nat.lt_of_le_of_lt (Nat.sub_le _ _) t.isLt)).2.1) (last8 (outsAt0 m c (t.val - 1) (Nat.lt_of_le_of_lt (Nat.sub_le _ _) t.isLt)).2.2)) := by
  rw [outsAt0_B m c t h0]
  dsimp only
  frame_open
  simp (disch := decide) only [↓ readCov_earlier, ↓ readCov_reset, ↓ readCov_four, ↓ readCov_three, ↓ View.readCov_skip, ↓ View.readCov_cons_toLoadRect, ↓ View.readCov_fill]
  frame_out
  simp only [read_unread_whole]
  simp (disch := decide) only [ld_cols 1024, ld_cols 3, ld_cols 1, ld_rows 1024, ld_rows 768, ld_last8]
  simp only [chunk0, chunk1, chunk2, chunk3, chunk4, chunk5, chunk6, chunk7, chunk8, chunk9, chunk10]
  unfold result down chunkAct
  rfl

end Cert.Ffn

end
-- ==== Proof.FfnKept.lean ====
module

public import proofs.«01_k».proof.Proof.FfnPoint

@[expose] public section

set_option maxRecDepth 16384

noncomputable section

open Idealize.ShloMosaic Idealize.ShloMosaic.TcCoe Idealize.SL.Sem
open Idealize.ShloMosaic.Pipeline (Dat)

namespace Cert.Ffn

open Cert.KernelIdeal Cert.KernelIdeal.Gen

/-- One of the last eight rows of chunk `n`'s window, the chunk's tile stored last: a row of the tile. -/
theorem canon_tile {e : EltTy} (n : ℕ) (hn : n < 11) (i : ∀ a, ![n, 8, 0] a + ![1, 512, 256] a ≤ S11x520x256.size a)
    (H : (Rect.unit (s := S11x520x256) ![n, 8, 0] ![1, 512, 256] i).shape.Idx → Elt Ideal e) (L : List (View.Piece (Elt Ideal) S11x520x256 e))
    (k : ℕ) (hk : k < 8) (l : Fin 256) :
    View.canon (⟨Rect.unit ![n, 8, 0] ![1, 512, 256] i, H⟩ :: L) (ix3 ⟨n, hn⟩ ⟨512 + k, by omega⟩ l)
      = H (ix3 (n0 := 1) (n1 := 512) (n2 := 256) 0 ⟨504 + k, by omega⟩ l) := by
  refine canon_hit _ _ _ _ _ fun a => ?_
  rw [ValueKit.rect_emb_unit_val]
  match a with
  | ⟨0, _⟩ => rfl
  | ⟨1, _⟩ => show 512 + k = 8 + (504 + k); omega
  | ⟨2, _⟩ => exact (Nat.zero_add _).symm

/-- Stores of another chunk are not read. -/
theorem canon_other {e : EltTy} (n q o w : ℕ) (hn : n < 11) (i : ∀ a, ![q, o, 0] a + ![1, w, 256] a ≤ S11x520x256.size a)
    (H : (Rect.unit (s := S11x520x256) ![q, o, 0] ![1, w, 256] i).shape.Idx → Elt Ideal e) (L : List (View.Piece (Elt Ideal) S11x520x256 e))
    (k : ℕ) (hk : k < 8) (l : Fin 256) (hq : q ≠ n) :
    View.canon (⟨Rect.unit ![q, o, 0] ![1, w, 256] i, H⟩ :: L) (ix3 ⟨n, hn⟩ ⟨512 + k, by omega⟩ l)
      = View.canon L (ix3 ⟨n, hn⟩ ⟨512 + k, by omega⟩ l) := by
  refine View.canon_cons_of_not_mem _ _ ?_
  rw [Rect.mem_set_unit]
  intro hm
  have h1 : q ≤ n := (hm 0).1
  have h2 : n < q + 1 := (hm 0).2
  omega

variable (m : (ℓ : Loc nD τ sig) → Buf (Elt Ideal) ℓ)

/-- The last rows of chunk `n`'s window after the first tile: the tile's own last hidden values of the first half. -/
theorem kept_A0 (c : Dev nD) (t : Fin cfg0.N) (h0 : t.val % 8 = 0) (n : ℕ) (hn : n < 11) (k : ℕ) (hk : k < 8) (l : Fin 256) :
    (outsAt0 m c t.val t.isLt).2.1 (ix3 ⟨n, hn⟩ ⟨512 + k, by omega⟩ l)
      = k0_pay11 (k0_pay6 (iblk m c 0 t) (iblk m c 2 t) (cols 1024 (iblk m c 3 t) (256 * n) (by omega)))
          (ix3 0 ⟨504 + k, by omega⟩ l) := by
  rw [outsAt0_A m c t h0]
  dsimp only
  frame_open
  simp (disch := decide) only [↓ View.readCov_skip, ↓ View.readCov_cons_toLoadRect, ↓ View.readCov_fill]
  frame_out
  interval_cases n <;>
  · simp (disch := first | decide | assumption) only [↓ canon_tile, ↓ canon_other]
    simp (disch := decide) only [ld_cols 1024] <;> (unfold_payloads; rfl)

/-- The last rows of chunk `n`'s window after the first tile: the tile's own last hidden values of the second half. -/
theorem kept_A1 (c : Dev nD) (t : Fin cfg0.N) (h0 : t.val % 8 = 0) (n : ℕ) (hn : n < 11) (k : ℕ) (hk : k < 8) (l : Fin 256) :
    (outsAt0 m c t.val t.isLt).2.2 (ix3 ⟨n, hn⟩ ⟨512 + k, by omega⟩ l)
      = k0_pay11 (k0_pay6 (iblk m c 0 t) (iblk m c 2 t) (cols 1024 (iblk m c 3 t) (2816 + 256 * n) (by omega)))
          (ix3 0 ⟨504 + k, by omega⟩ l) := by
  rw [outsAt0_A m c t h0]
  dsimp only
  frame_open
  simp (disch := decide) only [↓ View.readCov_skip, ↓ View.readCov_cons_toLoadRect, ↓ View.readCov_fill]
  frame_out
  interval_cases n <;>
  · simp (disch := first | decide | assumption) only [↓ canon_tile, ↓ canon_other]
    simp (disch := decide) only [ld_cols 1024] <;> (unfold_payloads; rfl)

/-- The last rows of chunk `n`'s window after a later tile: the tile's own last hidden values of the first half. -/
theorem kept_B0 (c : Dev nD) (t : Fin cfg0.N) (h0 : ¬t.val % 8 = 0) (n : ℕ) (hn : n < 11) (k : ℕ) (hk : k < 8) (l : Fin 256) :
    (outsAt0 m c t.val t.isLt).2.1 (ix3 ⟨n, hn⟩ ⟨512 + k, by omega⟩ l)
      = k0_pay11 (k0_pay6 (iblk m c 0 t) (iblk m c 2 t) (cols 1024 (iblk m c 3 t) (256 * n) (by omega)))
          (ix3 0 ⟨504 + k, by omega⟩ l) := by
  rw [outsAt0_B m c t h0]
  dsimp only
  frame_open
  simp (disch := decide) only [↓ View.readCov_skip, ↓ View.readCov_cons_toLoadRect, ↓ View.readCov_fill]
  frame_out
  interval_cases n <;>
  · simp (disch := first | decide | assumption) only [↓ canon_tile, ↓ canon_other]
    simp (disch := decide) only [ld_cols 1024] <;> (unfold_payloads; rfl)

/-- The last rows of chunk `n`'s window after a later tile: the tile's own last hidden values of the second half. -/
theorem kept_B1 (c : Dev nD) (t : Fin cfg0.N) (h0 : ¬t.val % 8 = 0) (n : ℕ) (hn : n < 11) (k : ℕ) (hk : k < 8) (l : Fin 256) :
    (outsAt0 m c t.val t.isLt).2.2 (ix3 ⟨n, hn⟩ ⟨512 + k, by omega⟩ l)
      = k0_pay11 (k0_pay6 (iblk m c 0 t) (iblk m c 2 t) (cols 1024 (iblk m c 3 t) (2816 + 256 * n) (by omega)))
          (ix3 0 ⟨504 + k, by omega⟩ l) := by
  rw [outsAt0_B m c t h0]
  dsimp only
  frame_open
  simp (disch := decide) only [↓ View.readCov_skip, ↓ View.readCov_cons_toLoadRect, ↓ View.readCov_fill]
  frame_out
  interval_cases n <;>
  · simp (disch := first | decide | assumption) only [↓ canon_tile, ↓ canon_other]
    simp (disch := decide) only [ld_cols 1024] <;> (unfold_payloads; rfl)

end Cert.Ffn

end
-- ==== Proof.FfnValue.lean ====
module

public import proofs.«01_k».proof.Proof.FfnKept
public import proofs.«01_k».proof.Proof.Gen.ReferenceIdeal.Read

@[expose] public section

set_option maxRecDepth 16384

noncomputable section

open Idealize.ShloMosaic Idealize.ShloMosaic.TcCoe Idealize.SL.Sem
open Idealize.ShloMosaic.Pipeline (Dat)

namespace Cert.Ffn

open Cert.KernelIdeal Cert.KernelIdeal.Gen

variable (m : (ℓ : Loc nD τ sig) → Buf (Elt Ideal) ℓ)

/-- Where each window's block lies at grid point `t`: batch entry `t / 8`, token tile `t % 8`; the weights whole. -/
theorem idx : ∀ t : Fin cfg0.N,
    win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![t.val / 8, t.val % 8, 0] :=
  (by decide +kernel : ∀ t : Fin grid0.N, _)

/-- The reference's hidden values, with the two zero rows it puts above each sequence. -/
abbrev padded (c : Dev nD) : Vec Ideal ⟨3, ![8, 4098, 5632]⟩ .f32 :=
  Cert.ReferenceIdeal.Read.val_main_v14 (F := Ideal) (m ((c : Thread nD τ).loc main_arg0)) (m ((c : Thread nD τ).loc main_arg2))
    (m ((c : Thread nD τ).loc main_arg3))

/-- The reference's hidden values. -/
abbrev hidden (c : Dev nD) : Vec Ideal ⟨3, ![8, 4096, 5632]⟩ .f32 :=
  Cert.ReferenceIdeal.Read.val_main_v13 (F := Ideal) (m ((c : Thread nD τ).loc main_arg0)) (m ((c : Thread nD τ).loc main_arg2))
    (m ((c : Thread nD τ).loc main_arg3))

theorem padded_row (c : Dev nD) (b : Fin 8) (k : ℕ) (hk : k < 4096) (q : Fin 5632) :
    padded m c (ix3 b ⟨k + 2, by omega⟩ q) = hidden m c (ix3 b ⟨k, hk⟩ q) := by
  unfold padded hidden
  unfold Cert.ReferenceIdeal.Read.val_main_v14
  pointwise
  have e : b.val < 8 ∧ k + 2 - 2 < 4096 ∧ q.val < 5632 := ⟨b.isLt, by omega, q.isLt⟩
  simp only [e, and_self, dite_true, Nat.add_sub_cancel]
  exact dif_pos hk

theorem padded_zero (c : Dev nD) (b : Fin 8) (k : ℕ) (hk : k < 2) (q : Fin 5632) :
    padded m c (ix3 b ⟨k, by omega⟩ q) = 0 := by
  unfold padded
  unfold Cert.ReferenceIdeal.Read.val_main_v14 Cert.ReferenceIdeal.Read.val_main_call0_v0 Cert.ReferenceIdeal.Read.val_main_c
  pointwise
  rw [dif_neg (by omega)]
  show ((((0#32 : BitVec 32).toInt : ℤ) : ℝ) : EReal) = 0
  simp

/-- A tile's hidden values are the reference's. -/
theorem hidden_at (c : Dev nD) (t : Fin cfg0.N) (o : ℕ) (ho : o + 256 ≤ 5632) (r : Fin 512) (l : Fin 256) :
    k0_pay11 (k0_pay6 (iblk m c 0 t) (iblk m c 2 t) (cols 1024 (iblk m c 3 t) o ho)) (ix3 0 r l)
      = hidden m c (ix3 ⟨t.val / 8, by have h : t.val < 64 := t.isLt; omega⟩ ⟨512 * (t.val % 8) + r.val, by omega⟩ ⟨o + l.val, by omega⟩) := by
  unfold_payloads
  unfold hidden cols
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_cst Cert.ReferenceIdeal.Read.val_main_cst_0 Cert.ReferenceIdeal.Read.val_main_cst_1
  pointwise
  blk_point [iblk, V, idx t]

/-- The reference's filtered hidden values. -/
abbrev filtered (c : Dev nD) : Vec Ideal ⟨3, ![8, 4096, 5632]⟩ .f32 :=
  Cert.ReferenceIdeal.Read.val_main_v37 (F := Ideal) (m ((c : Thread nD τ).loc main_arg0)) (m ((c : Thread nD τ).loc main_arg2)) (m ((c : Thread nD τ).loc main_arg3)) (m ((c : Thread nD τ).loc main_arg4)) (m ((c : Thread nD τ).loc main_arg5))

/-- The filter's three weights of a column, its shift, and a padded hidden value, as numbers. -/
def weight (c : Dev nD) (a : Fin 3) (q : Fin 5632) : EReal := m ((c : Thread nD τ).loc main_arg4) (ix2 a q)
def shift (c : Dev nD) (q : Fin 5632) : EReal := m ((c : Thread nD τ).loc main_arg5) (ix1 q)
def pad (c : Dev nD) (b : Fin 8) (k : Fin 4098) (q : Fin 5632) : EReal := padded m c (ix3 b k q)

/-- The filter over a row and the two above it. -/
theorem filtered_at (c : Dev nD) (b : Fin 8) (k : ℕ) (hk : k < 4096) (q : Fin 5632) :
    filtered m c (ix3 b ⟨k, hk⟩ q)
      = weight m c 0 q * pad m c b ⟨k, by omega⟩ q + weight m c 1 q * pad m c b ⟨k + 1, by omega⟩ q
        + weight m c 2 q * pad m c b ⟨k + 2, by omega⟩ q + shift m c q := by
  unfold filtered weight shift pad padded
  unfold Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15
  generalize Cert.ReferenceIdeal.Read.val_main_v14 (F := Ideal) (m ((c : Thread nD τ).loc main_arg0)) (m ((c : Thread nD τ).loc main_arg2)) (m ((c : Thread nD τ).loc main_arg3)) = Y
  pointwise
  simp only [Nat.add_comm 1 k, Nat.add_comm 2 k]

/-- The kernel's filter over a chunk of the first half whose three row windows hold the reference's hidden values. -/
theorem filter_at (c : Dev nD) (t : Fin cfg0.N) (o : ℕ) (ho : o + 256 ≤ 5632) (H : Vec Ideal S512x256 .f32) (a7 a6 : Vec Ideal S1x512x256 .f32)
    (r : Fin 512) (l : Fin 256)
    (h8 : H (ix2 r l) = pad m c ⟨t.val / 8, by have h : t.val < 64 := t.isLt; omega⟩ ⟨512 * (t.val % 8) + r.val + 2, by omega⟩ ⟨o + l.val, by omega⟩)
    (h7 : a7 (ix3 0 r l) = pad m c ⟨t.val / 8, by have h : t.val < 64 := t.isLt; omega⟩ ⟨512 * (t.val % 8) + r.val + 1, by omega⟩ ⟨o + l.val, by omega⟩)
    (h6 : a6 (ix3 0 r l) = pad m c ⟨t.val / 8, by have h : t.val < 64 := t.isLt; omega⟩ ⟨512 * (t.val % 8) + r.val, by omega⟩ ⟨o + l.val, by omega⟩) :
    k0_pay12 H (cols 3 (iblk m c 4 t) o ho) (cols 1 (iblk m c 5 t) o ho) a7 a6 (ix2 r l)
      = filtered m c (ix3 ⟨t.val / 8, by have h : t.val < 64 := t.isLt; omega⟩ ⟨512 * (t.val % 8) + r.val, by omega⟩ ⟨o + l.val, by omega⟩) := by
  rw [filtered_at]
  unfold_payloads
  unfold cols
  pointwise
  rw [h8, h7, h6]
  unfold weight shift
  blk_point [iblk, V, idx t]

/-- The reference's activations. -/
abbrev acted (c : Dev nD) : Vec Ideal ⟨3, ![8, 4096, 2816]⟩ .f32 :=
  Cert.ReferenceIdeal.Read.val_main_v53 (F := Ideal) (m ((c : Thread nD τ).loc main_arg0)) (m ((c : Thread nD τ).loc main_arg2)) (m ((c : Thread nD τ).loc main_arg3)) (m ((c : Thread nD τ).loc main_arg4)) (m ((c : Thread nD τ).loc main_arg5))

/-- The gate: the first half's filtered values through the gate function, times the second half's. -/
theorem gate_at (c : Dev nD) (t : Fin cfg0.N) (n : ℕ) (hn : n < 11) (v : Vec Ideal S512x256 .f32) (H : Vec Ideal S512x256 .f32)
    (b7 b6 : Vec Ideal S1x512x256 .f32) (r : Fin 512) (l : Fin 256)
    (hv : v (ix2 r l) = filtered m c (ix3 ⟨t.val / 8, by have h : t.val < 64 := t.isLt; omega⟩ ⟨512 * (t.val % 8) + r.val, by omega⟩ ⟨256 * n + l.val, by omega⟩))
    (h8 : H (ix2 r l) = pad m c ⟨t.val / 8, by have h : t.val < 64 := t.isLt; omega⟩ ⟨512 * (t.val % 8) + r.val + 2, by omega⟩ ⟨2816 + 256 * n + l.val, by omega⟩)
    (h7 : b7 (ix3 0 r l) = pad m c ⟨t.val / 8, by have h : t.val < 64 := t.isLt; omega⟩ ⟨512 * (t.val % 8) + r.val + 1, by omega⟩ ⟨2816 + 256 * n + l.val, by omega⟩)
    (h6 : b6 (ix3 0 r l) = pad m c ⟨t.val / 8, by have h : t.val < 64 := t.isLt; omega⟩ ⟨512 * (t.val % 8) + r.val, by omega⟩ ⟨2816 + 256 * n + l.val, by omega⟩) :
    k0_pay17 H v (cols 3 (iblk m c 4 t) (2816 + 256 * n) (by omega)) (k0_pay13 (cols 1 (iblk m c 5 t) (2816 + 256 * n) (by omega))) b7 b6 (ix2 r l)
      = acted m c (ix3 ⟨t.val / 8, by have h : t.val < 64 := t.isLt; omega⟩ ⟨512 * (t.val % 8) + r.val, by omega⟩ ⟨256 * n + l.val, by omega⟩) := by
  have hb := filtered_at m c ⟨t.val / 8, by have h : t.val < 64 := t.isLt; omega⟩ (512 * (t.val % 8) + r.val) (by omega) ⟨2816 + 256 * n + l.val, by omega⟩
  unfold filtered at hv hb
  unfold acted
  unfold Cert.ReferenceIdeal.Read.val_main_v53 Cert.ReferenceIdeal.Read.val_main_v52 Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_v46 Cert.ReferenceIdeal.Read.val_main_v45 Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_cst_2 Cert.ReferenceIdeal.Read.val_main_cst_3 Cert.ReferenceIdeal.Read.val_main_cst_4 Cert.ReferenceIdeal.Read.val_main_cst_5
  generalize Cert.ReferenceIdeal.Read.val_main_v37 (F := Ideal) (m ((c : Thread nD τ).loc main_arg0)) (m ((c : Thread nD τ).loc main_arg2)) (m ((c : Thread nD τ).loc main_arg3)) (m ((c : Thread nD τ).loc main_arg4)) (m ((c : Thread nD τ).loc main_arg5)) = Y at hv hb ⊢
  unfold_payloads
  unfold cols
  pointwise
  simp only [Nat.add_assoc] at hb h8 h7 h6 ⊢
  rw [hv, hb, h8, h7, h6]
  unfold weight shift
  blk_point [iblk, V, idx t]

end Cert.Ffn

end
-- ==== Proof.FfnCarry.lean ====
module

public import proofs.«01_k».proof.Proof.FfnValue

@[expose] public section

set_option maxRecDepth 16384

noncomputable section

open Idealize.ShloMosaic Idealize.ShloMosaic.TcCoe Idealize.SL.Sem
open Idealize.ShloMosaic.Pipeline (Dat)

namespace Cert.Ffn

open Cert.KernelIdeal Cert.KernelIdeal.Gen

variable (m : (ℓ : Loc nD τ sig) → Buf (Elt Ideal) ℓ)

theorem hidden_row (c : Dev nD) (t : Fin cfg0.N) (o : ℕ) (ho : o + 256 ≤ 5632) (r : Fin 512) (l : Fin 256) :
    k0_pay11 (k0_pay6 (iblk m c 0 t) (iblk m c 2 t) (cols 1024 (iblk m c 3 t) o ho)) (ix3 0 r l)
      = pad m c ⟨t.val / 8, by have h : t.val < 64 := t.isLt; omega⟩ ⟨512 * (t.val % 8) + r.val + 2, by omega⟩ ⟨o + l.val, by omega⟩ := by
  rw [hidden_at]
  exact (padded_row m c _ _ _ _).symm

/-- A tile seen one or two rows earlier is the padded hidden values there, where the kept rows are. -/
theorem earlier_at (c : Dev nD) (t : Fin cfg0.N) (q : ℕ) (hq : q + 256 ≤ 5632) (o : ℕ) (ho : o ≤ 8) (h6 : 6 ≤ o) (P : Vec Ideal S1x8x256 .f32)
    (r : Fin 512) (l : Fin 256)
    (hP : ∀ (k : ℕ) (hk : k < 8), 6 ≤ k → P (ix3 0 ⟨k, hk⟩ l) = pad m c ⟨t.val / 8, by have h : t.val < 64 := t.isLt; omega⟩ ⟨512 * (t.val % 8) + (k - 6), by omega⟩ ⟨q + l.val, by omega⟩) :
    earlier o ho (k0_pay11 (k0_pay6 (iblk m c 0 t) (iblk m c 2 t) (cols 1024 (iblk m c 3 t) q hq))) P (ix3 0 r l)
      = pad m c ⟨t.val / 8, by have h : t.val < 64 := t.isLt; omega⟩ ⟨512 * (t.val % 8) + r.val + (o - 6), by omega⟩ ⟨q + l.val, by omega⟩ := by
  unfold earlier
  by_cases h : 8 ≤ o + r.val
  · refine (dif_pos h).trans ?_
    refine (hidden_row m c t q hq ⟨o + r.val - 8, by omega⟩ l).trans ?_
    congr 2
    show 512 * (t.val % 8) + (o + r.val - 8) + 2 = _
    omega
  · refine (dif_neg h).trans ?_
    refine (hP (o + r.val) (by omega) (by omega)).trans ?_
    congr 2
    omega

/-- A chunk of a tile's activations is the reference's, where the rows kept for it are the padded hidden values above the tile. -/
theorem chunk_at (c : Dev nD) (t : Fin cfg0.N) (pa pb : Vec Ideal S11x8x256 .f32) (n : ℕ) (hn : n < 11) (r : Fin 512) (l : Fin 256)
    (ha : ∀ (k : ℕ) (hk : k < 8), 6 ≤ k → pa (ix3 ⟨n, hn⟩ ⟨k, hk⟩ l) = pad m c ⟨t.val / 8, by have h : t.val < 64 := t.isLt; omega⟩ ⟨512 * (t.val % 8) + (k - 6), by omega⟩ ⟨256 * n + l.val, by omega⟩)
    (hb : ∀ (k : ℕ) (hk : k < 8), 6 ≤ k → pb (ix3 ⟨n, hn⟩ ⟨k, hk⟩ l) = pad m c ⟨t.val / 8, by have h : t.val < 64 := t.isLt; omega⟩ ⟨512 * (t.val % 8) + (k - 6), by omega⟩ ⟨2816 + 256 * n + l.val, by omega⟩) :
    chunkAct m c t pa pb n hn (ix2 r l) = acted m c (ix3 ⟨t.val / 8, by have h : t.val < 64 := t.isLt; omega⟩ ⟨512 * (t.val % 8) + r.val, by omega⟩ ⟨256 * n + l.val, by omega⟩) := by
  have e1 : ∀ (X : Vec Ideal S512x256 .f32), X (ix2 r l) = k0_pay11 (F := Ideal) X (ix3 0 r l) := fun X => by
    unfold_payloads
    pointwise
  have e2 : ∀ (k : Fin 8), k0_pay10 (F := Ideal) (kept pa n hn) (ix3 0 k l) = pa (ix3 ⟨n, hn⟩ k l) := fun k => by
    unfold_payloads
    unfold kept
    pointwise
  have e3 : ∀ (k : Fin 8), k0_pay15 (F := Ideal) (k0_pay14 (kept pb n hn)) (ix3 0 k l) = pb (ix3 ⟨n, hn⟩ k l) := fun k => by
    unfold_payloads
    unfold kept
    pointwise
  unfold chunkAct act
  refine gate_at m c t n hn _ _ _ _ r l (filter_at m c t (256 * n) (by omega) _ _ _ r l ?_ ?_ ?_) ?_ ?_ ?_
  · exact (e1 _).trans (hidden_row m c t _ _ r l)
  · exact earlier_at m c t _ _ 7 _ (by decide) _ r l fun k hk h6 => (e2 ⟨k, hk⟩).trans (ha k hk h6)
  · exact earlier_at m c t _ _ 6 _ (by decide) _ r l fun k hk h6 => (e2 ⟨k, hk⟩).trans (ha k hk h6)
  · exact (e1 _).trans (hidden_row m c t _ _ r l)
  · exact earlier_at m c t _ _ 7 _ (by decide) _ r l fun k hk h6 => (e3 ⟨k, hk⟩).trans (hb k hk h6)
  · exact earlier_at m c t _ _ 6 _ (by decide) _ r l fun k hk h6 => (e3 ⟨k, hk⟩).trans (hb k hk h6)

/-- The two last rows kept after a tile are the padded hidden values two rows above the next tile. -/
theorem kept_at0 (c : Dev nD) (t : Fin cfg0.N) (n : ℕ) (hn : n < 11) (k : ℕ) (hk : k < 8) (l : Fin 256) :
    (outsAt0 m c t.val t.isLt).2.1 (ix3 ⟨n, hn⟩ ⟨512 + k, by omega⟩ l)
      = pad m c ⟨t.val / 8, by have h : t.val < 64 := t.isLt; omega⟩ ⟨512 * (t.val % 8) + (504 + k) + 2, by omega⟩ ⟨256 * n + l.val, by omega⟩ := by
  by_cases h0 : t.val % 8 = 0
  · rw [kept_A0 m c t h0 n hn k hk l]; exact hidden_row m c t _ _ _ l
  · rw [kept_B0 m c t h0 n hn k hk l]; exact hidden_row m c t _ _ _ l

theorem kept_at1 (c : Dev nD) (t : Fin cfg0.N) (n : ℕ) (hn : n < 11) (k : ℕ) (hk : k < 8) (l : Fin 256) :
    (outsAt0 m c t.val t.isLt).2.2 (ix3 ⟨n, hn⟩ ⟨512 + k, by omega⟩ l)
      = pad m c ⟨t.val / 8, by have h : t.val < 64 := t.isLt; omega⟩ ⟨512 * (t.val % 8) + (504 + k) + 2, by omega⟩ ⟨2816 + 256 * n + l.val, by omega⟩ := by
  by_cases h0 : t.val % 8 = 0
  · rw [kept_A1 m c t h0 n hn k hk l]; exact hidden_row m c t _ _ _ l
  · rw [kept_B1 m c t h0 n hn k hk l]; exact hidden_row m c t _ _ _ l

/-- A grid point writes its result over activations that are the reference's. -/
theorem out_at (c : Dev nD) (t : Fin cfg0.N) :
    ∃ A : (n : ℕ) → n < 11 → Vec Ideal S512x256 .bf16,
      (outsAt0 m c t.val t.isLt).1 = result m c t A
      ∧ ∀ (n : ℕ) (hn : n < 11) (r : Fin 512) (l : Fin 256),
          A n hn (ix2 r l) = acted m c (ix3 ⟨t.val / 8, by have h : t.val < 64 := t.isLt; omega⟩ ⟨512 * (t.val % 8) + r.val, by omega⟩ ⟨256 * n + l.val, by omega⟩) := by
  by_cases h0 : t.val % 8 = 0
  · refine ⟨_, out_A m c t h0, fun n hn r l => chunk_at m c t _ _ n hn r l ?_ ?_⟩
    · intro k hk h6
      have e : k0_pay4 (F := Ideal) (ix3 ⟨n, hn⟩ ⟨k, hk⟩ l) = 0 := by unfold_payloads; pointwise
      exact e.trans (padded_zero m c _ (512 * (t.val % 8) + (k - 6)) (by omega) _).symm
    · intro k hk h6
      have e : k0_pay5 (F := Ideal) (ix3 ⟨n, hn⟩ ⟨k, hk⟩ l) = 0 := by unfold_payloads; pointwise
      exact e.trans (padded_zero m c _ (512 * (t.val % 8) + (k - 6)) (by omega) _).symm
  · have ht : t.val < 64 := t.isLt
    have e : ∀ q : Fin 5632, ∀ k : ℕ, ∀ hk : k < 8, 6 ≤ k →
        pad m c ⟨(t.val - 1) / 8, by omega⟩ ⟨512 * ((t.val - 1) % 8) + (504 + k) + 2, by omega⟩ q
          = pad m c ⟨t.val / 8, by have h : t.val < 64 := t.isLt; omega⟩ ⟨512 * (t.val % 8) + (k - 6), by omega⟩ q := fun q k hk h6 => by
      congr 2
      · omega
      · omega
    refine ⟨_, out_B m c t h0, fun n hn r l => chunk_at m c t _ _ n hn r l ?_ ?_⟩
    · intro k hk h6
      exact (kept_at0 m c ⟨t.val - 1, Nat.lt_of_le_of_lt (Nat.sub_le _ _) t.isLt⟩ n hn k hk l).trans (e _ k hk h6)
    · intro k hk h6
      exact (kept_at1 m c ⟨t.val - 1, Nat.lt_of_le_of_lt (Nat.sub_le _ _) t.isLt⟩ n hn k hk l).trans (e _ k hk h6)

end Cert.Ffn

end
-- ==== Proof.FfnFinal.lean ====
module

public import proofs.«01_k».proof.Proof.FfnCarry
public import proofs.«01_k».proof.Proof.Gen.KernelIdeal.Value
public import proofs.«01_k».proof.Proof.Gen.ReferenceIdeal.Run
public import proofs.«01_k».proof.Defs

@[expose] public section

set_option maxRecDepth 16384

noncomputable section

open Idealize.ShloMosaic Idealize.ShloMosaic.TcCoe Idealize.SL.Sem
open Idealize.ShloMosaic.Pipeline (Dat)

namespace Cert.Ffn

open Cert.KernelIdeal Cert.KernelIdeal.Gen

variable (m : (ℓ : Loc nD τ sig) → Buf (Elt Ideal) ℓ)

/-- A sum over the 2816 hidden columns, cut where the kernel cuts it. -/
theorem sum_cut (f : Fin 2816 → EReal) :
    ∑ x, f x = ((∑ x : Fin 1024, f ⟨x.val, by omega⟩) + ∑ x : Fin 1024, f ⟨1024 + x.val, by omega⟩) + ∑ x : Fin 768, f ⟨2048 + x.val, by omega⟩ := by
  have h1 := Fin.sum_univ_add (a := 2048) (b := 768) f
  have h2 := Fin.sum_univ_add (a := 1024) (b := 1024) fun i => f (Fin.castAdd 768 i)
  rw [h1, h2]
  rfl

/-- The reference's residual stream after the down product. -/
abbrev stream (c : Dev nD) : Vec Ideal ⟨3, ![8, 4096, 1024]⟩ .f32 :=
  Cert.ReferenceIdeal.Read.val_main_v55 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- Four chunks side by side are the reference's activations of their 1024 columns. -/
theorem four_at (c : Dev nD) (t : Fin cfg0.N) (A : (n : ℕ) → n < 11 → Vec Ideal S512x256 .bf16)
    (hA : ∀ (n : ℕ) (hn : n < 11) (r : Fin 512) (l : Fin 256),
      A n hn (ix2 r l) = acted m c (ix3 ⟨t.val / 8, by have h : t.val < 64 := t.isLt; omega⟩ ⟨512 * (t.val % 8) + r.val, by omega⟩ ⟨256 * n + l.val, by omega⟩))
    (n : ℕ) (hn : n + 3 < 11) (r : Fin 512) (x : Fin 1024) :
    four (A n (by omega)) (A (n + 1) (by omega)) (A (n + 2) (by omega)) (A (n + 3) hn) (ix2 r x)
      = acted m c (ix3 ⟨t.val / 8, by have h : t.val < 64 := t.isLt; omega⟩ ⟨512 * (t.val % 8) + r.val, by omega⟩ ⟨256 * n + x.val, by omega⟩) := by
  have hx : x.val < 1024 := x.isLt
  unfold four
  split
  · exact hA n _ r ⟨x.val, _⟩
  · split
    · refine (hA (n + 1) _ r ⟨x.val - 256, _⟩).trans ?_
      congr 2
      apply Fin.ext
      show 256 * (n + 1) + (x.val - 256) = 256 * n + x.val
      rename_i h _
      have : ¬ x.val < 256 := h
      omega
    · split
      · refine (hA (n + 2) _ r ⟨x.val - 512, _⟩).trans ?_
        congr 2
        apply Fin.ext
        show 256 * (n + 2) + (x.val - 512) = 256 * n + x.val
        rename_i h _
        have : ¬ x.val < 512 := h
        omega
      · refine (hA (n + 3) _ r ⟨x.val - 768, _⟩).trans ?_
        congr 2
        apply Fin.ext
        show 256 * (n + 3) + (x.val - 768) = 256 * n + x.val
        rename_i h
        have : ¬ x.val < 768 := h
        omega

theorem three_at (c : Dev nD) (t : Fin cfg0.N) (A : (n : ℕ) → n < 11 → Vec Ideal S512x256 .bf16)
    (hA : ∀ (n : ℕ) (hn : n < 11) (r : Fin 512) (l : Fin 256),
      A n hn (ix2 r l) = acted m c (ix3 ⟨t.val / 8, by have h : t.val < 64 := t.isLt; omega⟩ ⟨512 * (t.val % 8) + r.val, by omega⟩ ⟨256 * n + l.val, by omega⟩))
    (n : ℕ) (hn : n + 2 < 11) (r : Fin 512) (x : Fin 768) :
    three (A n (by omega)) (A (n + 1) (by omega)) (A (n + 2) hn) (ix2 r x)
      = acted m c (ix3 ⟨t.val / 8, by have h : t.val < 64 := t.isLt; omega⟩ ⟨512 * (t.val % 8) + r.val, by omega⟩ ⟨256 * n + x.val, by omega⟩) := by
  have hx : x.val < 768 := x.isLt
  unfold three
  split
  · exact hA n _ r ⟨x.val, _⟩
  · split
    · refine (hA (n + 1) _ r ⟨x.val - 256, _⟩).trans ?_
      congr 2
      apply Fin.ext
      show 256 * (n + 1) + (x.val - 256) = 256 * n + x.val
      rename_i h _
      have : ¬ x.val < 256 := h
      omega
    · refine (hA (n + 2) _ r ⟨x.val - 512, _⟩).trans ?_
      congr 2
      apply Fin.ext
      show 256 * (n + 2) + (x.val - 512) = 256 * n + x.val
      rename_i h
      have : ¬ x.val < 512 := h
      omega

/-- The tile's residual stream after the down product is the reference's. -/
theorem stream_at (c : Dev nD) (t : Fin cfg0.N) (A : (n : ℕ) → n < 11 → Vec Ideal S512x256 .bf16)
    (hA : ∀ (n : ℕ) (hn : n < 11) (r : Fin 512) (l : Fin 256),
      A n hn (ix2 r l) = acted m c (ix3 ⟨t.val / 8, by have h : t.val < 64 := t.isLt; omega⟩ ⟨512 * (t.val % 8) + r.val, by omega⟩ ⟨256 * n + l.val, by omega⟩))
    (r : Fin 512) (q : Fin 1024) :
    k0_pay136 (k0_pay2 (iblk m c 0 t)) (down m c t A) (three (A 8 (by decide)) (A 9 (by decide)) (A 10 (by decide)))
        (rows 768 (iblk m c 6 t) 2048 (by decide)) (ix2 r q)
      = stream m c (ix3 ⟨t.val / 8, by have h : t.val < 64 := t.isLt; omega⟩ ⟨512 * (t.val % 8) + r.val, by omega⟩ q) := by
  have f0 : ∀ x : Fin 1024, four (A 0 (by decide)) (A 1 (by decide)) (A 2 (by decide)) (A 3 (by decide)) (ix2 r x)
      = acted m c (ix3 ⟨t.val / 8, by have h : t.val < 64 := t.isLt; omega⟩ ⟨512 * (t.val % 8) + r.val, by omega⟩ ⟨x.val, by omega⟩) := fun x =>
    (four_at m c t A hA 0 (by decide) r x).trans (by congr 2; apply Fin.ext; show 256 * 0 + x.val = x.val; omega)
  have f4 : ∀ x : Fin 1024, four (A 4 (by decide)) (A 5 (by decide)) (A 6 (by decide)) (A 7 (by decide)) (ix2 r x)
      = acted m c (ix3 ⟨t.val / 8, by have h : t.val < 64 := t.isLt; omega⟩ ⟨512 * (t.val % 8) + r.val, by omega⟩ ⟨1024 + x.val, by omega⟩) := fun x => four_at m c t A hA 4 (by decide) r x
  have f8 : ∀ x : Fin 768, three (A 8 (by decide)) (A 9 (by decide)) (A 10 (by decide)) (ix2 r x)
      = acted m c (ix3 ⟨t.val / 8, by have h : t.val < 64 := t.isLt; omega⟩ ⟨512 * (t.val % 8) + r.val, by omega⟩ ⟨2048 + x.val, by omega⟩) := fun x => three_at m c t A hA 8 (by decide) r x
  unfold down
  unfold stream
  unfold Cert.ReferenceIdeal.Read.val_main_v55 Cert.ReferenceIdeal.Read.val_main_v54
  unfold acted at f0 f4 f8
  generalize Cert.ReferenceIdeal.Read.val_main_v53 (F := Ideal) (m ((c : Thread nD τ).loc main_arg0)) (m ((c : Thread nD τ).loc main_arg2)) (m ((c : Thread nD τ).loc main_arg3)) (m ((c : Thread nD τ).loc main_arg4)) (m ((c : Thread nD τ).loc main_arg5)) = Y at f0 f4 f8 ⊢
  generalize four (A 0 _) (A 1 _) (A 2 _) (A 3 _) = F0 at f0 ⊢
  generalize four (A 4 _) (A 5 _) (A 6 _) (A 7 _) = F4 at f4 ⊢
  generalize three (A 8 _) (A 9 _) (A 10 _) = F8 at f8 ⊢
  unfold_payloads
  unfold rows
  pointwise
  simp only [f0, f4, f8, sum_cut]
  blk_point [iblk, V, idx t]

/-- The block a grid point writes is the reference's result there. -/
theorem result_at (c : Dev nD) (t : Fin cfg0.N) (A : (n : ℕ) → n < 11 → Vec Ideal S512x256 .bf16)
    (hA : ∀ (n : ℕ) (hn : n < 11) (r : Fin 512) (l : Fin 256),
      A n hn (ix2 r l) = acted m c (ix3 ⟨t.val / 8, by have h : t.val < 64 := t.isLt; omega⟩ ⟨512 * (t.val % 8) + r.val, by omega⟩ ⟨256 * n + l.val, by omega⟩))
    (r : Fin 512) (q : Fin 1024) :
    result m c t A (ix3 0 r q)
      = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 ⟨t.val / 8, by have h : t.val < 64 := t.isLt; omega⟩ ⟨512 * (t.val % 8) + r.val, by omega⟩ q) := by
  have hs := stream_at m c t A hA
  unfold result
  dsimp only
  unfold k0_pay138
  generalize k0_pay136 (k0_pay2 (iblk m c 0 t)) (down m c t A) (three (A 8 _) (A 9 _) (A 10 _)) (rows 768 (iblk m c 6 t) 2048 _) = Z at hs ⊢
  unfold Cert.ReferenceIdeal.Read.val_main_v91 Cert.ReferenceIdeal.Read.val_main_v90 Cert.ReferenceIdeal.Read.val_main_v89 Cert.ReferenceIdeal.Read.val_main_v88 Cert.ReferenceIdeal.Read.val_main_v87 Cert.ReferenceIdeal.Read.val_main_v86 Cert.ReferenceIdeal.Read.val_main_v85 Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_v77 Cert.ReferenceIdeal.Read.val_main_v76 Cert.ReferenceIdeal.Read.val_main_v75 Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_v65 Cert.ReferenceIdeal.Read.val_main_v64 Cert.ReferenceIdeal.Read.val_main_v63 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_cst_6 Cert.ReferenceIdeal.Read.val_main_cst_7 Cert.ReferenceIdeal.Read.val_main_cst_8 Cert.ReferenceIdeal.Read.val_main_cst_9 Cert.ReferenceIdeal.Read.val_main_cst_10 Cert.ReferenceIdeal.Read.val_main_cst_11 Cert.ReferenceIdeal.Read.val_main_cst_12 Cert.ReferenceIdeal.Read.val_main_cst_13
  unfold stream at hs
  generalize Cert.ReferenceIdeal.Read.val_main_v55 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) = Y at hs ⊢
  unfold_payloads
  pointwise [Ideal.logistic]
  simp only [hs]
  blk_point [iblk, V, idx t]

/-- The reference's result as a function of the kernel's own arguments: what the result array is shown to hold. -/
abbrev fed (c : Dev nD) : Buf (Elt Ideal) ((c : Thread nD τ).loc main_v8) :=
  Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The result array after the run is the reference's result of the arguments. -/
theorem final (c : Dev nD) : (dats m 0 c).arrAt 11 cfg0.N = fed m c := by
  refine (dats m 0 c).arrAt_eq_of_covers 11 _ (by decide +kernel) fun t hf y => ?_
  blk_simp
  rw [after0_11]
  obtain ⟨A, hA, hv⟩ := out_at m c t
  rw [hA]
  idx_vars y
  obtain rfl : y0 = 0 := Subsingleton.elim _ _
  have hr := result_at m c t A hv y1 y2
  generalize result m c t A = R at hr ⊢
  rw [hr]
  unfold fed
  blk_point [idx t]

end Cert.Ffn

namespace Cert.Proof.FfnClaim

/-- The feed-forward half of the layer computes the function its reference defines. -/
theorem algebraic : Cert.algebraic_KernelIdeal_ReferenceIdeal := by
  intro m ρ m' ρ' _ hagree
  refine ⟨fun c => Cert.Ffn.fed m c, ?_, ?_⟩
  · exact (θ_run Cert.KernelIdeal.defs _ _).mono (fun _ h c => ⟨(h c).1.trans (Cert.Ffn.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v91_eq]
    unfold Cert.Ffn.fed
    obtain ⟨h0, h1, h2, h3, h4, h5, h6, h7, h8, h9, h10⟩ := hagree c
    show Cert.ReferenceIdeal.Read.val_main_v91 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) = _
    rw [h0, h1, h2, h3, h4, h5, h6, h7, h8, h9, h10]

end Cert.Proof.FfnClaim

end
-- ==== Proof.InValue.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProj

open Cert.Kernel3Ideal Cert.Kernel3Ideal.Gen

variable (m : (ℓ : Loc nD τ sig) → Buf (Elt Ideal) ℓ)

/-- Where each window's block lies at grid point `t`: batch entry `t / 8`, token tile `t % 8`; the weights whole. -/
theorem idx : ∀ t : Fin cfg0.N,
    win0_0.index t = ![t.val / 8, t.val % 8, 0] ∧ win0_1.index t = ![0, 0] ∧ win0_2.index t = ![0, 0]
    ∧ win0_3.index t = ![t.val / 8, t.val % 8, 0] ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0] :=
  (by decide +kernel : ∀ t : Fin grid0.N, _)

/-- The gain as the kernel gets it: one row. -/
theorem gain_eq (c : Dev nD) : V m c main_v0 = shapeCast S1x1024 (m ((c : Thread nD τ).loc main_arg1)) shapeCasts_S1024_S1x1024 := by
  show StableHlo.after _ _ _ = _
  simp only [List.flatten_cons, List.flatten_nil, List.append_nil, List.cons_append, List.nil_append, hostOps0, hostOps0_1, hostOps0_2, hostOps0_3, hostOps0_4, hostOps0_5, hostOps0_6]
  after_results_simp
  rfl

/-- Slot `s` of the six key and value slots in the input weights, as the kernel's host code slices it. -/
abbrev heads (w : FVec Ideal S1024x3864 .f32) : FVec Ideal S1024x6x2x64 .f32 :=
  shapeCast S1024x6x2x64 (extractStridedSlice S1024x768 ![0, 1024] w slices_S1024x3864_S1024x768_0_1024) shapeCasts_S1024x768_S1024x6x2x64

/-- The padding value: the integer zero as a number. -/
abbrev zero : FVec Ideal S_ .f32 := sitofp .f32 (constantI S_ 32 0#32)

/-- The weights the kernel multiplies by: the input weights' columns reordered, zero columns filling each key head and the gates. -/
def weights (w : FVec Ideal S1024x3864 .f32) : FVec Ideal S1024x2176 .bf16 :=
  truncf .bf16 (concatenate S1024x2176 1
    [⟨S1024x1024, extractStridedSlice S1024x1024 ![0, 0] w slices_S1024x3864_S1024x1024_0_0⟩,
     ⟨S1024x128, shapeCast S1024x128 (shapeCast S1024x2x64 (extractStridedSlice S1024x1x2x64 ![0, 0, 0, 0] (heads w) slices_S1024x6x2x64_S1024x1x2x64_0_0_0_0) shapeCasts_S1024x1x2x64_S1024x2x64) shapeCasts_S1024x2x64_S1024x128⟩,
     ⟨S1024x128, shapeCast S1024x128 (shapeCast S1024x2x64 (extractStridedSlice S1024x1x2x64 ![0, 1, 0, 0] (heads w) slices_S1024x6x2x64_S1024x1x2x64_0_1_0_0) shapeCasts_S1024x1x2x64_S1024x2x64) shapeCasts_S1024x2x64_S1024x128⟩,
     ⟨S1024x256, shapeCast S1024x256 (pad S1024x2x128 ![0, 0, 0] ![0, 0, 64] ![0, 0, 0] (shapeCast S1024x2x64 (extractStridedSlice S1024x1x2x64 ![0, 2, 0, 0] (heads w) slices_S1024x6x2x64_S1024x1x2x64_0_2_0_0) shapeCasts_S1024x1x2x64_S1024x2x64) zero pads_S1024x2x64_S1024x2x128_000_000_0640 h_S_) shapeCasts_S1024x2x128_S1024x256⟩,
     ⟨S1024x256, shapeCast S1024x256 (pad S1024x2x128 ![0, 0, 0] ![0, 0, 64] ![0, 0, 0] (shapeCast S1024x2x64 (extractStridedSlice S1024x1x2x64 ![0, 4, 0, 0] (heads w) slices_S1024x6x2x64_S1024x1x2x64_0_4_0_0) shapeCasts_S1024x1x2x64_S1024x2x64) zero pads_S1024x2x64_S1024x2x128_000_000_0640 h_S_) shapeCasts_S1024x2x128_S1024x256⟩,
     ⟨S1024x128, shapeCast S1024x128 (shapeCast S1024x2x64 (extractStridedSlice S1024x1x2x64 ![0, 3, 0, 0] (heads w) slices_S1024x6x2x64_S1024x1x2x64_0_3_0_0) shapeCasts_S1024x1x2x64_S1024x2x64) shapeCasts_S1024x2x64_S1024x128⟩,
     ⟨S1024x128, shapeCast S1024x128 (shapeCast S1024x2x64 (extractStridedSlice S1024x1x2x64 ![0, 5, 0, 0] (heads w) slices_S1024x6x2x64_S1024x1x2x64_0_5_0_0) shapeCasts_S1024x1x2x64_S1024x2x64) shapeCasts_S1024x2x64_S1024x128⟩,
     ⟨S1024x128, pad S1024x128 ![0, 0] ![0, 104] ![0, 0] (extractStridedSlice S1024x24 ![0, 1792] w slices_S1024x3864_S1024x24_0_1792) zero pads_S1024x24_S1024x128_000_01040 h_S_⟩]
    concatenates_S1024x1024_S1024x128_S1024x128_S1024x256_S1024x256_S1024x128_S1024x128_S1024x128_S1024x2176_d1) bitsLt_bf16_f32

/-- The weights the kernel gets are the reordered, padded columns. -/
theorem weight_eq (c : Dev nD) : V m c main_v27 = weights (m ((c : Thread nD τ).loc main_arg2)) := by
  show StableHlo.after _ _ _ = _
  simp only [List.flatten_cons, List.flatten_nil, List.append_nil, List.cons_append, List.nil_append, hostOps0, hostOps0_1, hostOps0_2, hostOps0_3, hostOps0_4, hostOps0_5, hostOps0_6]
  after_results_simp
  rfl

section Columns

variable (w : FVec Ideal S1024x3864 .f32) (k : Fin 1024)

/-- The first 1280 columns are the input weights' own: the recurrence's input, the queries, and the keys and values to compress. -/
theorem col_own (n : ℕ) (hn : n < 2176) (h : n < 1280) : weights w (ix2 k ⟨n, hn⟩) = w (ix2 k ⟨n, by omega⟩) := by
  unfold weights
  pointwise
  split_ifs <;> first | omega | exact congrArg (fun q => w (ix2 k q)) (Fin.ext (by dsimp only <;> omega))

/-- The selected blocks' keys: the first 64 columns of each head are the input weights'. -/
theorem col_ks (n : ℕ) (hn : 1280 + n < 2176) (h : n < 256) (h' : n % 128 < 64) :
    weights w (ix2 k ⟨1280 + n, hn⟩) = w (ix2 k ⟨1280 + n / 128 * 64 + n % 128, by omega⟩) := by
  unfold weights
  pointwise
  split_ifs <;> first | omega | exact congrArg (fun q => w (ix2 k q)) (Fin.ext (by dsimp only <;> omega))

/-- The window's keys: the first 64 columns of each head are the input weights'. -/
theorem col_kw (n : ℕ) (hn : 1536 + n < 2176) (h : n < 256) (h' : n % 128 < 64) :
    weights w (ix2 k ⟨1536 + n, hn⟩) = w (ix2 k ⟨1536 + n / 128 * 64 + n % 128, by omega⟩) := by
  unfold weights
  pointwise
  split_ifs <;> first | omega | exact congrArg (fun q => w (ix2 k q)) (Fin.ext (by dsimp only <;> omega))

/-- The integer zero as a number is zero. -/
theorem sitofp_zero : (FloatOps.sitofp (F := Ideal) FTy.f32 (0#32) : Ideal .f32) = 0 := by
  show ((((0#32 : BitVec 32).toInt : ℤ) : ℝ) : EReal) = 0
  simp

/-- The columns that fill up the selected blocks' key heads are zero. -/
theorem col_ks_zero (n : ℕ) (hn : 1280 + n < 2176) (h : n < 256) (h' : ¬ n % 128 < 64) : weights w (ix2 k ⟨1280 + n, hn⟩) = 0 := by
  unfold weights
  pointwise
  split_ifs <;> first | omega | exact sitofp_zero

/-- The columns that fill up the window's key heads are zero. -/
theorem col_kw_zero (n : ℕ) (hn : 1536 + n < 2176) (h : n < 256) (h' : ¬ n % 128 < 64) : weights w (ix2 k ⟨1536 + n, hn⟩) = 0 := by
  unfold weights
  pointwise
  split_ifs <;> first | omega | exact sitofp_zero

/-- The selected blocks' values. -/
theorem col_vs (n : ℕ) (hn : 1792 + n < 2176) (h : n < 128) : weights w (ix2 k ⟨1792 + n, hn⟩) = w (ix2 k ⟨1408 + n, by omega⟩) := by
  unfold weights
  pointwise
  split_ifs <;> first | omega | exact congrArg (fun q => w (ix2 k q)) (Fin.ext (by dsimp only <;> omega))

/-- The window's values. -/
theorem col_vw (n : ℕ) (hn : 1920 + n < 2176) (h : n < 128) : weights w (ix2 k ⟨1920 + n, hn⟩) = w (ix2 k ⟨1664 + n, by omega⟩) := by
  unfold weights
  pointwise
  split_ifs <;> first | omega | exact congrArg (fun q => w (ix2 k q)) (Fin.ext (by dsimp only <;> omega))

/-- The gates. -/
theorem col_gate (n : ℕ) (hn : 2048 + n < 2176) (h : n < 24) : weights w (ix2 k ⟨2048 + n, hn⟩) = w (ix2 k ⟨1792 + n, by omega⟩) := by
  unfold weights
  pointwise
  split_ifs <;> first | omega | exact congrArg (fun q => w (ix2 k q)) (Fin.ext (by dsimp only <;> omega))

/-- The columns that fill up the gates are zero. -/
theorem col_gate_zero (n : ℕ) (hn : 2048 + n < 2176) (h : ¬ n < 24) : weights w (ix2 k ⟨2048 + n, hn⟩) = 0 := by
  unfold weights
  pointwise
  split_ifs <;> first | omega | exact sitofp_zero

end Columns

/-- The weights' block at every grid point is the whole weight matrix. -/
theorem iblk_w (c : Dev nD) (t : Fin cfg0.N) (k : Fin 1024) (j : Fin 2176) :
    iblk m c 2 t (ix2 k j) = weights (m ((c : Thread nD τ).loc main_arg2)) (ix2 k j) := by
  rw [← weight_eq]
  blk_point [iblk, idx t]

/-- The gain's block at every grid point is the whole gain. -/
theorem iblk_g (c : Dev nD) (t : Fin cfg0.N) (k : Fin 1024) :
    iblk m c 1 t (ix2 0 k) = m ((c : Thread nD τ).loc main_arg1) (ix1 k) := by
  have h : V m c main_v0 (ix2 0 k) = m ((c : Thread nD τ).loc main_arg1) (ix1 k) := by
    rw [gain_eq]
    pointwise
  rw [← h]
  blk_point [iblk, idx t]

/-- The kernel's result 0 is the reference's: the recurrence's input. -/
theorem final3 (c : Dev nD) : (dats m 0 c).arrAt 3 cfg0.N = Cert.Reference3Ideal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold_payloads
  rw [← Cert.Reference3Ideal.Read.val_main_v14_eq]
  pointwise
  have hb : (y 2).val < 512 := (y 2).isLt
  have e : ((((View.whole main_v28_0).slice (win0_3.rect t)).emb y) 2).val = (y 2).val := by blk_point [idx t]
  have hc : ∀ k : Fin 1024, weights (m ((c : Thread nD τ).loc main_arg2)) (ix2 k ⟨(y 2).val, by omega⟩) = m ((c : Thread nD τ).loc main_arg2) (ix2 k ⟨(y 2).val, by omega⟩) := fun k => col_own _ k _ _ (by omega)
  simp only [iblk_w, iblk_g, hc]
  blk_point [iblk, V, idx t]

/-- The kernel's result 1 is the reference's: the queries. -/
theorem final4 (c : Dev nD) : (dats m 0 c).arrAt 4 cfg0.N = Cert.Reference3Ideal.Read.val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  unfold_payloads
  rw [← Cert.Reference3Ideal.Read.val_main_v15_eq]
  pointwise
  have hb : (y 2).val < 512 := (y 2).isLt
  have e : ((((View.whole main_v28_1).slice (win0_4.rect t)).emb y) 2).val = (y 2).val := by blk_point [idx t]
  have hc : ∀ k : Fin 1024, weights (m ((c : Thread nD τ).loc main_arg2)) (ix2 k ⟨512 + (y 2).val, by omega⟩) = m ((c : Thread nD τ).loc main_arg2) (ix2 k ⟨512 + (y 2).val, by omega⟩) := fun k => col_own _ k _ _ (by omega)
  simp only [iblk_w, iblk_g, hc]
  blk_point [iblk, V, idx t]

set_option maxHeartbeats 1000000 in
/-- The kernel's result 2 is the reference's: the keys and values to compress. -/
theorem final5 (c : Dev nD) : (dats m 0 c).arrAt 5 cfg0.N = Cert.Reference3Ideal.Read.val_main_v24 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold_payloads
  rw [← Cert.Reference3Ideal.Read.val_main_v24_eq]
  pointwise
  have hb : (y 2).val < 256 := (y 2).isLt
  have e : ((((View.whole main_v28_2).slice (win0_5.rect t)).emb y) 2).val = (y 2).val := by blk_point [idx t]
  have hc : ∀ k : Fin 1024, weights (m ((c : Thread nD τ).loc main_arg2)) (ix2 k ⟨1024 + (y 2).val, by omega⟩) = m ((c : Thread nD τ).loc main_arg2) (ix2 k ⟨1024 + (y 2).val, by omega⟩) := fun k => col_own _ k _ _ (by omega)
  split_ifs <;> (simp only [iblk_w, iblk_g, hc]; blk_point [iblk, V, idx t])

/-- The kernel's result 3 is the reference's: the selected blocks' keys, zero columns filling each head. -/
theorem final6 (c : Dev nD) : (dats m 0 c).arrAt 6 cfg0.N = Cert.Reference3Ideal.Read.val_main_v28 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  unfold_payloads
  rw [← Cert.Reference3Ideal.Read.val_main_v28_eq]
  pointwise
  have hb : (y 2).val < 256 := (y 2).isLt
  have e : ((((View.whole main_v28_3).slice (win0_6.rect t)).emb y) 2).val = (y 2).val := by blk_point [idx t]
  by_cases h : (y 2).val % 128 < 64
  · have hc : ∀ k : Fin 1024, weights (m ((c : Thread nD τ).loc main_arg2)) (ix2 k ⟨1280 + (y 2).val, by omega⟩) = m ((c : Thread nD τ).loc main_arg2) (ix2 k ⟨1280 + (y 2).val / 128 * 64 + (y 2).val % 128, by omega⟩) := fun k => col_ks _ k _ _ hb h
    rw [dif_pos (by omega)]
    simp only [iblk_w, iblk_g, hc]
    blk_point [iblk, V, idx t]
  · have hc : ∀ k : Fin 1024, weights (m ((c : Thread nD τ).loc main_arg2)) (ix2 k ⟨1280 + (y 2).val, by omega⟩) = 0 := fun k => col_ks_zero _ k _ _ hb h
    rw [dif_neg (by omega)]
    simp only [iblk_w, hc, mul_zero, Finset.sum_const_zero]
    exact sitofp_zero.symm

/-- The kernel's result 4 is the reference's: the window's keys, zero columns filling each head. -/
theorem final7 (c : Dev nD) : (dats m 0 c).arrAt 7 cfg0.N = Cert.Reference3Ideal.Read.val_main_v32 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  unfold_payloads
  rw [← Cert.Reference3Ideal.Read.val_main_v32_eq]
  pointwise
  have hb : (y 2).val < 256 := (y 2).isLt
  have e : ((((View.whole main_v28_4).slice (win0_7.rect t)).emb y) 2).val = (y 2).val := by blk_point [idx t]
  by_cases h : (y 2).val % 128 < 64
  · have hc : ∀ k : Fin 1024, weights (m ((c : Thread nD τ).loc main_arg2)) (ix2 k ⟨1536 + (y 2).val, by omega⟩) = m ((c : Thread nD τ).loc main_arg2) (ix2 k ⟨1536 + (y 2).val / 128 * 64 + (y 2).val % 128, by omega⟩) := fun k => col_kw _ k _ _ hb h
    rw [dif_pos (by omega)]
    simp only [iblk_w, iblk_g, hc]
    blk_point [iblk, V, idx t]
  · have hc : ∀ k : Fin 1024, weights (m ((c : Thread nD τ).loc main_arg2)) (ix2 k ⟨1536 + (y 2).val, by omega⟩) = 0 := fun k => col_kw_zero _ k _ _ hb h
    rw [dif_neg (by omega)]
    simp only [iblk_w, hc, mul_zero, Finset.sum_const_zero]
    exact sitofp_zero.symm

/-- The kernel's result 5 is the reference's: the selected blocks' values. -/
theorem final8 (c : Dev nD) : (dats m 0 c).arrAt 8 cfg0.N = Cert.Reference3Ideal.Read.val_main_v33 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  unfold_payloads
  rw [← Cert.Reference3Ideal.Read.val_main_v33_eq]
  pointwise
  have hb : (y 2).val < 128 := (y 2).isLt
  have e : ((((View.whole main_v28_5).slice (win0_8.rect t)).emb y) 2).val = (y 2).val := by blk_point [idx t]
  have hc : ∀ k : Fin 1024, weights (m ((c : Thread nD τ).loc main_arg2)) (ix2 k ⟨1792 + (y 2).val, by omega⟩) = m ((c : Thread nD τ).loc main_arg2) (ix2 k ⟨1408 + (y 2).val, by omega⟩) := fun k => col_vs _ k _ _ hb
  simp only [iblk_w, iblk_g, hc]
  blk_point [iblk, V, idx t]

/-- The kernel's result 6 is the reference's: the window's values. -/
theorem final9 (c : Dev nD) : (dats m 0 c).arrAt 9 cfg0.N = Cert.Reference3Ideal.Read.val_main_v34 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  frame_out
  unfold_payloads
  rw [← Cert.Reference3Ideal.Read.val_main_v34_eq]
  pointwise
  have hb : (y 2).val < 128 := (y 2).isLt
  have e : ((((View.whole main_v28_6).slice (win0_9.rect t)).emb y) 2).val = (y 2).val := by blk_point [idx t]
  have hc : ∀ k : Fin 1024, weights (m ((c : Thread nD τ).loc main_arg2)) (ix2 k ⟨1920 + (y 2).val, by omega⟩) = m ((c : Thread nD τ).loc main_arg2) (ix2 k ⟨1664 + (y 2).val, by omega⟩) := fun k => col_vw _ k _ _ hb
  simp only [iblk_w, iblk_g, hc]
  blk_point [iblk, V, idx t]

/-- The kernel's result 7 is the reference's: the gates, zero columns filling the tile. -/
theorem final10 (c : Dev nD) : (dats m 0 c).arrAt 10 cfg0.N = Cert.Reference3Ideal.Read.val_main_v35 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  frame_out
  unfold_payloads
  rw [← Cert.Reference3Ideal.Read.val_main_v35_eq]
  pointwise
  have hb : (y 2).val < 128 := (y 2).isLt
  have e : ((((View.whole main_v28_7).slice (win0_10.rect t)).emb y) 2).val = (y 2).val := by blk_point [idx t]
  by_cases h : (y 2).val < 24
  · have hc : ∀ k : Fin 1024, weights (m ((c : Thread nD τ).loc main_arg2)) (ix2 k ⟨2048 + (y 2).val, by omega⟩) = m ((c : Thread nD τ).loc main_arg2) (ix2 k ⟨1792 + (y 2).val, by omega⟩) := fun k => col_gate _ k _ _ h
    rw [dif_pos (by omega)]
    simp only [iblk_w, iblk_g, hc]
    blk_point [iblk, V, idx t]
  · have hc : ∀ k : Fin 1024, weights (m ((c : Thread nD τ).loc main_arg2)) (ix2 k ⟨2048 + (y 2).val, by omega⟩) = 0 := fun k => col_gate_zero _ k _ _ h
    rw [dif_neg (by omega)]
    simp only [iblk_w, hc, mul_zero, Finset.sum_const_zero]
    exact sitofp_zero.symm

end Cert.InProj

namespace Cert.Proof.InClaim

/-- The norm and the input product compute the eight functions their reference defines. -/
theorem algebraic : Cert.algebraic_Kernel3Ideal_Reference3Ideal := by
  intro m ρ m' ρ' _ hagree
  refine ⟨fun c => Cert.Reference3Ideal.Read.val_main_v14 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Cert.Reference3Ideal.Read.val_main_v15 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Cert.Reference3Ideal.Read.val_main_v24 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Cert.Reference3Ideal.Read.val_main_v28 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Cert.Reference3Ideal.Read.val_main_v32 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Cert.Reference3Ideal.Read.val_main_v33 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Cert.Reference3Ideal.Read.val_main_v34 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Cert.Reference3Ideal.Read.val_main_v35 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · refine (θ_run Cert.Kernel3Ideal.defs _ _).mono (fun _ h c => ?_) (Cert.Kernel3Ideal.Value.run_blocks (F := Ideal) m ρ)
    obtain ⟨h3, h4, h5, h6, h7, h8, h9, h10, hargs⟩ := h c
    exact ⟨h3.trans (Cert.InProj.final3 m c), h4.trans (Cert.InProj.final4 m c), h5.trans (Cert.InProj.final5 m c), h6.trans (Cert.InProj.final6 m c), h7.trans (Cert.InProj.final7 m c), h8.trans (Cert.InProj.final8 m c), h9.trans (Cert.InProj.final9 m c), h10.trans (Cert.InProj.final10 m c), hargs⟩
  · refine (θ_run Cert.Reference3Ideal.defs _ _).mono (fun _ h c => ?_) (Cert.Reference3Ideal.Value.run (F := Ideal) m' ρ')
    obtain ⟨e0, e1, e2⟩ := hagree c
    obtain ⟨h3, h4, h5, h6, h7, h8, h9, h10, hargs⟩ := h c
    exact ⟨h3.trans ((Cert.Reference3Ideal.Read.val_main_v14_eq _ _ _).trans (congr (congr (congrArg _ e0) e1) e2)),
      h4.trans ((Cert.Reference3Ideal.Read.val_main_v15_eq _ _ _).trans (congr (congr (congrArg _ e0) e1) e2)),
      h5.trans ((Cert.Reference3Ideal.Read.val_main_v24_eq _ _ _).trans (congr (congr (congrArg _ e0) e1) e2)),
      h6.trans ((Cert.Reference3Ideal.Read.val_main_v28_eq _ _ _).trans (congr (congr (congrArg _ e0) e1) e2)),
      h7.trans ((Cert.Reference3Ideal.Read.val_main_v32_eq _ _ _).trans (congr (congr (congrArg _ e0) e1) e2)),
      h8.trans ((Cert.Reference3Ideal.Read.val_main_v33_eq _ _ _).trans (congr (congr (congrArg _ e0) e1) e2)),
      h9.trans ((Cert.Reference3Ideal.Read.val_main_v34_eq _ _ _).trans (congr (congr (congrArg _ e0) e1) e2)),
      h10.trans ((Cert.Reference3Ideal.Read.val_main_v35_eq _ _ _).trans (congr (congr (congrArg _ e0) e1) e2)), hargs⟩

end Cert.Proof.InClaim

end
-- ==== Proof.MixValue.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mix

open Cert.Kernel2Ideal Cert.Kernel2Ideal.Gen

variable (m : (ℓ : Loc nD τ sig) → Buf (Elt Ideal) ℓ)

/-- The reference's result as a function of the kernel's own arguments: what the result array is shown to hold. -/
abbrev mixed (c : Dev nD) : Buf (Elt Ideal) ((c : Thread nD τ).loc main_v6) :=
  Cert.Reference2Ideal.Read.val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- Where each window's block lies at grid point `t`: batch entry `t / 4`, token tile `t % 4`; the weights whole. -/
theorem idx : ∀ t : Fin cfg0.N,
    win0_0.index t = ![t.val / 4, t.val % 4, 0] ∧ win0_1.index t = ![t.val / 4, t.val % 4, 0] ∧ win0_2.index t = ![t.val / 4, t.val % 4, 0]
    ∧ win0_3.index t = ![0, 0] ∧ win0_4.index t = ![0, 0] ∧ win0_5.index t = ![0, 0] ∧ win0_6.index t = ![0, 0] ∧ win0_7.index t = ![0, 0]
    ∧ win0_8.index t = ![t.val / 4, t.val % 4, 0] :=
  (by decide +kernel : ∀ t : Fin grid0.N, _)

/-- The result array after the run is the reference's result of the arguments. -/
theorem final (c : Dev nD) : (dats m 0 c).arrAt 8 cfg0.N = mixed m c := by
  refine (dats m 0 c).arrAt_eq_of_covers 8 _ (by decide +kernel) fun t hf y => ?_
  blk_simp
  rw [after0_8]
  frame_out
  unfold_payloads
  unfold mixed
  rw [← Cert.Reference2Ideal.Read.val_main_v31_eq]
  pointwise [Ideal.logistic]
  blk_point [iblk, V, idx t]

end Cert.Mix

namespace Cert.Proof.MixClaim

/-- The merge of the two branches with the output product computes the function its reference defines. -/
theorem algebraic : Cert.algebraic_Kernel2Ideal_Reference2Ideal := by
  intro m ρ m' ρ' _ hagree
  refine ⟨fun c => Cert.Mix.mixed m c, ?_, ?_⟩
  · exact (θ_run Cert.Kernel2Ideal.defs _ _).mono (fun _ h c => ⟨(h c).1.trans (Cert.Mix.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    rw [Cert.Reference2Ideal.Read.val_main_v31_eq]
    unfold Cert.Mix.mixed
    obtain ⟨h0, h1, h2, h3, h4, h5, h6, h7⟩ := hagree c
    rw [h0, h1, h2, h3, h4, h5, h6, h7]

end Cert.Proof.MixClaim

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.CmpKValue
public import proofs.«01_k».proof.Proof.CmpVValue
public import proofs.«01_k».proof.Proof.CmpValue
public import proofs.«01_k».proof.Proof.FfnFinal
public import proofs.«01_k».proof.Proof.InValue
public import proofs.«01_k».proof.Proof.MixValue
public import Idealize.ShloMosaic.Adequacy
public import Idealize.ShloMosaic.Init

@[expose] public section

noncomputable section

namespace Cert.Proof

open Idealize.ShloMosaic Idealize.SL.Sem Cert.Kernel

/-- Every run of the feed-forward call ends, and its arguments are unchanged. -/
theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Every run of the merge call ends, and its arguments are unchanged. -/
theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- Every run of the input projection ends, and its arguments are unchanged. -/
theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

/-- Every run of the attention to the compressed blocks ends, and its arguments are unchanged. -/
theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- Every run of the compression of the keys ends, and its arguments are unchanged. -/
theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- Every run of the compression of the values ends, and its arguments are unchanged. -/
theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The two constants of the attention's kernel that are read as the numbers they stand for. -/
theorem preserves_kernel4 : Cert.preserves_Kernel4_Kernel4Ideal :=
  ⟨IdealRules.named_const.statement Cert.Kernel4Ideal.κ "scale" .f32 _ _ rfl,
    IdealRules.named_const.statement Cert.Kernel4Ideal.κ "mask" .f32 _ _ rfl⟩

/-- The shapes in the precondition fit together. -/
theorem facts_finite : Cert.Pre_finite.Facts where
  bcast_S_S8x4096x512 := by decide
  reducesTo_S8x4096x512_S_d0_1_2 := by decide
  h_S_ := by decide
  bitsLt_bf16_f32 := by decide
  bcast_S_S8x2x256x64 := by decide
  reducesTo_S8x2x256x64_S_d0_1_2_3 := by decide

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts,
    Cert.Reference6Ideal.Gen.facts, facts_finite,
    frame_kernel, frame_kernelIdeal, frame_referenceIdeal, frame_kernel2, frame_kernel2Ideal, frame_reference2Ideal,
    frame_kernel3, frame_kernel3Ideal, frame_reference3Ideal,
    frame_kernel4, frame_kernel4Ideal, fun m ρ _ => Cert.Kernel4Ideal.Gen.frame m ρ, frame_reference4Ideal,
    fun m ρ _ => frame_reference4Ideal m ρ trivial,
    frame_kernel5, frame_kernel5Ideal, frame_reference5Ideal, frame_kernel6, frame_kernel6Ideal, frame_reference6Ideal,
    trivial, FfnClaim.algebraic, trivial, MixClaim.algebraic, trivial, InClaim.algebraic,
    preserves_kernel4, CmpClaim.algebraic (hPre := facts_finite),
    trivial, CmpKClaim.algebraic, trivial, CmpVClaim.algebraic⟩

end Cert.Proof

end
